-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unlearned_transforms [hPre_unlearned_transforms : Cert.Pre_unlearned_transforms.Facts] (m : (ℓ : Loc Cert.KernelIdeal.nD Cert.KernelIdeal.τ Cert.KernelIdeal.sig) → Buf (Elt Ideal) ℓ) : Prop :=
  ∀ c : Dev Cert.KernelIdeal.nD,
    (Cert.Pre_unlearned_transforms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_unlearned_transforms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_unlearned_transforms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unlearned_transforms [hPre_unlearned_transforms : Cert.Pre_unlearned_transforms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unlearned_transforms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_unlearned_transforms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_unlearned_transforms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_unlearned_transforms [hKernelIdeal : Cert.KernelIdeal.Facts] [hPre_unlearned_transforms : Cert.Pre_unlearned_transforms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unlearned_transforms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_unlearned_transforms [hReferenceIdeal : Cert.ReferenceIdeal.Facts] [hPre_unlearned_transforms : Cert.Pre_unlearned_transforms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unlearned_transforms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_unlearned_transforms [hKernelIdeal : Cert.KernelIdeal.Facts] [hReferenceIdeal : Cert.ReferenceIdeal.Facts] [hPre_unlearned_transforms : Cert.Pre_unlearned_transforms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unlearned_transforms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_unlearned_transforms : Cert.Pre_unlearned_transforms.Facts),
    quiescent_Kernel (hKernel := hKernel)
    ∧ quiescent_KernelIdeal (hKernelIdeal := hKernelIdeal)
    ∧ quiescent_KernelIdeal_pre_unlearned_transforms (hKernelIdeal := hKernelIdeal) (hPre_unlearned_transforms := hPre_unlearned_transforms)
    ∧ quiescent_ReferenceIdeal (hReferenceIdeal := hReferenceIdeal)
    ∧ quiescent_ReferenceIdeal_pre_unlearned_transforms (hReferenceIdeal := hReferenceIdeal) (hPre_unlearned_transforms := hPre_unlearned_transforms)
    ∧ preserves_Kernel_KernelIdeal
    ∧ algebraic_KernelIdeal_ReferenceIdeal_pre_unlearned_transforms (hKernelIdeal := hKernelIdeal) (hReferenceIdeal := hReferenceIdeal) (hPre_unlearned_transforms := hPre_unlearned_transforms)
-- ==== Pre_unlearned_transforms.lean ====
abbrev S2048x128x256 : Shape := ⟨3, ![2048, 128, 256]⟩
abbrev S1x128x256 : Shape := ⟨3, ![1, 128, 256]⟩
abbrev S128x128 : Shape := ⟨2, ![128, 128]⟩
abbrev S_ : Shape := ⟨0, ![]⟩

class Facts : Prop where
  bcast_S_S2048x128x256 : S_.BroadcastsInDim S2048x128x256 (![] : Fin 0 → Fin S2048x128x256.rank)
  bcast_S_S1x128x256 : S_.BroadcastsInDim S1x128x256 (![] : Fin 0 → Fin S1x128x256.rank)

variable [Facts]

def fn {F : FTy → Type} [FloatOps F] (main_arg0 : FVec F S2048x128x256 .f32) (main_arg1 : FVec F S1x128x256 .f32) (main_arg2 : FVec F S1x128x256 .f32) (main_arg3 : FVec F S1x128x256 .f32) (main_arg4 : FVec F S128x128 .f32) (main_arg5 : FVec F S128x128 .f32) : IVec S2048x128x256 1 × IVec S1x128x256 1 × IVec S1x128x256 1 :=
  let main_v0 : FVec F S2048x128x256 .f32 := Host.absf main_arg0
  let main_cst : FVec F S_ .f32 := constant S_ .f32 0x7F800000#32
  let main_v1 : FVec F S2048x128x256 .f32 := broadcastInDim S2048x128x256 ![] bcast_S_S2048x128x256 main_cst
  let main_v2 : IVec S2048x128x256 1 := cmpf .olt main_v0 main_v1
  let main_cst_0 : FVec F S_ .f32 := constant S_ .f32 0x00000000#32
  let main_v3 : FVec F S1x128x256 .f32 := broadcastInDim S1x128x256 ![] bcast_S_S1x128x256 main_cst_0
  let main_v4 : IVec S1x128x256 1 := cmpf .oeq main_arg2 main_v3
  let main_cst_1 : FVec F S_ .f32 := constant S_ .f32 0x3F800000#32
  let main_v5 : FVec F S1x128x256 .f32 := broadcastInDim S1x128x256 ![] bcast_S_S1x128x256 main_cst_1
  let main_v6 : IVec S1x128x256 1 := cmpf .oeq main_arg3 main_v5
  (main_v2, main_v4, main_v6)
-- ==== Kernel.lean ====
abbrev S2048x128x256 : Shape := ⟨3, ![2048, 128, 256]⟩
abbrev S1x128x256 : Shape := ⟨3, ![1, 128, 256]⟩
abbrev S128x128 : Shape := ⟨2, ![128, 128]⟩
abbrev S128x256 : Shape := ⟨2, ![128, 256]⟩
abbrev S64x128x256 : Shape := ⟨3, ![64, 128, 256]⟩
abbrev S64x128x128 : Shape := ⟨3, ![64, 128, 128]⟩
abbrev S64x128 : Shape := ⟨2, ![64, 128]⟩
abbrev S128x64 : Shape := ⟨2, ![128, 64]⟩
abbrev S128x1 : Shape := ⟨2, ![128, 1]⟩

abbrev nBuf : Space → Nat
  | .hbm => 8
  | .vmem => 9
  | .smem => 0
  | _ => 0

abbrev bufTy : (tb : Table) → Fin (tcTables nBuf tb) → BufTy
  | .hbm, ⟨0, _⟩ => ⟨S2048x128x256, .f32⟩
  | .hbm, ⟨1, _⟩ => ⟨S1x128x256, .f32⟩
  | .hbm, ⟨2, _⟩ => ⟨S1x128x256, .f32⟩
  | .hbm, ⟨3, _⟩ => ⟨S1x128x256, .f32⟩
  | .hbm, ⟨4, _⟩ => ⟨S128x128, .f32⟩
  | .hbm, ⟨5, _⟩ => ⟨S128x128, .f32⟩
  | .hbm, ⟨6, _⟩ => ⟨S128x256, .f32⟩
  | .hbm, ⟨7, _⟩ => ⟨S2048x128x256, .f32⟩
  | .local _ .vmem, ⟨0, _⟩ => ⟨S64x128x256, .f32⟩
  | .local _ .vmem, ⟨1, _⟩ => ⟨S64x128x256, .f32⟩
  | .local _ .vmem, ⟨2, _⟩ => ⟨S128x256, .f32⟩
  | .local _ .vmem, ⟨3, _⟩ => ⟨S128x128, .f32⟩
  | .local _ .vmem, ⟨4, _⟩ => ⟨S128x128, .f32⟩
  | .local _ .vmem, ⟨5, _⟩ => ⟨S64x128x256, .f32⟩
  | .local _ .vmem, ⟨6, _⟩ => ⟨S64x128x256, .f32⟩
  | .local _ .vmem, ⟨7, _⟩ => ⟨S128x256, .f32⟩
  | .local _ .vmem, ⟨8, _⟩ => ⟨S128x256, .f32⟩
  | _, _ => ⟨S2048x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def k0_cond4 (i : grid0.Coords) : BitVec 1 :=
  let arg0 : BitVec 32 := BitVec.ofNat 32 (i 0).val
  let c32_i32_3 : BitVec 32 := 32#32
  let v9 : BitVec 1 := Scalar.cmpi .sge arg0 c32_i32_3
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let c32_i32 : BitVec 32 := 32#32
  let v0 : BitVec 1 := Scalar.cmpi .slt arg0 c32_i32
  let c31_i32 : BitVec 32 := 31#32
  let v1 : BitVec 32 := Scalar.subi c31_i32 arg0
  let c32_i32_0 : BitVec 32 := 32#32
  let v2 : BitVec 32 := Scalar.subi arg0 c32_i32_0
  let v3 : BitVec 32 := Scalar.select v0 v1 v2
  let c0_i32 : BitVec 32 := 0#32
  let c0_i32_1 : BitVec 32 := 0#32
  let c0_i32_2 : BitVec 32 := 0#32
  ![v3.toNat, c0_i32.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2048x128x256 : Shape := ⟨3, ![2048, 128, 256]⟩
abbrev S1x128x256 : Shape := ⟨3, ![1, 128, 256]⟩
abbrev S128x128 : Shape := ⟨2, ![128, 128]⟩
abbrev S_ : Shape := ⟨0, ![]⟩
abbrev S128x256 : Shape := ⟨2, ![128, 256]⟩
abbrev S2048x128 : Shape := ⟨2, ![2048, 128]⟩
abbrev S2048x128x1 : Shape := ⟨3, ![2048, 128, 1]⟩

abbrev nBuf : Space → Nat
  | .hbm => 137
  | .vmem => 0
  | .smem => 0
  | _ => 0

abbrev hbmTy0_0 (i : Nat) : BufTy := match i % 128 with
  | 0 => ⟨S2048x128x256, .f32⟩
  | 1 => ⟨S1x128x256, .f32⟩
  | 2 => ⟨S1x128x256, .f32⟩
  | 3 => ⟨S1x128x256, .f32⟩
  | 4 => ⟨S128x128, .f32⟩
  | 5 => ⟨S128x128, .f32⟩
  | 6 => ⟨S_, .f32⟩
  | 7 => ⟨S128x256, .f32⟩
  | 8 => ⟨S1x128x256, .f32⟩
  | 9 => ⟨S_, .f32⟩
  | 10 => ⟨S1x128x256, .f32⟩
  | 11 => ⟨S1x128x256, .f32⟩
  | 12 => ⟨S1x128x256, .f32⟩
  | 13 => ⟨S2048x128x256, .f32⟩
  | 14 => ⟨S2048x128x256, .f32⟩
  | 15 => ⟨S1x128x256, .f32⟩
  | 16 => ⟨S1x128x256, .f32⟩
  | 17 => ⟨S2048x128x256, .f32⟩
  | 18 => ⟨S2048x128x256, .f32⟩
  | 19 => ⟨S2048x128x256, .f32⟩
  | 20 => ⟨S2048x128x256, .f32⟩
  | 21 => ⟨S2048x128x256, .f32⟩
  | 22 => ⟨S2048x128x256, .f32⟩
  | 23 => ⟨S2048x128x256, .f32⟩
  | 24 => ⟨S1x128x256, .f32⟩
  | 25 => ⟨S1x128x256, .f32⟩
  | 26 => ⟨S_, .f32⟩
  | 27 => ⟨S1x128x256, .f32⟩
  | 28 => ⟨S1x128x256, .f32⟩
  | 29 => ⟨S_, .f32⟩
  | 30 => ⟨S1x128x256, .f32⟩
  | 31 => ⟨S1x128x256, .f32⟩
  | 32 => ⟨S_, .f32⟩
  | 33 => ⟨S1x128x256, .f32⟩
  | 34 => ⟨S1x128x256, .f32⟩
  | 35 => ⟨S2048x128x256, .f32⟩
  | 36 => ⟨S2048x128x256, .f32⟩
  | 37 => ⟨S2048x128x256, .f32⟩
  | 38 => ⟨S2048x128x256, .f32⟩
  | 39 => ⟨S2048x128x256, .f32⟩
  | 40 => ⟨S_, .f32⟩
  | 41 => ⟨S2048x128, .f32⟩
  | 42 => ⟨S_, .f32⟩
  | 43 => ⟨S2048x128, .f32⟩
  | 44 => ⟨S2048x128, .f32⟩
  | 45 => ⟨S128x128, .f32⟩
  | 46 => ⟨S2048x128, .f32⟩
  | 47 => ⟨S2048x128x1, .f32⟩
  | 48 => ⟨S2048x128x256, .f32⟩
  | 49 => ⟨S2048x128x256, .f32⟩
  | 50 => ⟨S2048x128x256, .f32⟩
  | 51 => ⟨S_, .f32⟩
  | 52 => ⟨S2048x128, .f32⟩
  | 53 => ⟨S_, .f32⟩
  | 54 => ⟨S2048x128, .f32⟩
  | 55 => ⟨S2048x128, .f32⟩
  | 56 => ⟨S_, .f32⟩
  | 57 => ⟨S2048x128, .f32⟩
  | 58 => ⟨S2048x128, .f32⟩
  | 59 => ⟨S2048x128, .f32⟩
  | 60 => ⟨S128x128, .f32⟩
  | 61 => ⟨S2048x128, .f32⟩
  | 62 => ⟨S_, .f32⟩
  | 63 => ⟨S2048x128, .f32⟩
  | 64 => ⟨S2048x128, .i1⟩
  | 65 => ⟨S_, .f32⟩
  | 66 => ⟨S_, .f32⟩
  | 67 => ⟨S2048x128, .f32⟩
  | 68 => ⟨S2048x128, .f32⟩
  | 69 => ⟨S2048x128x1, .f32⟩
  | 70 => ⟨S2048x128x256, .f32⟩
  | 71 => ⟨S2048x128x256, .f32⟩
  | 72 => ⟨S_, .f32⟩
  | 73 => ⟨S2048x128x256, .f32⟩
  | 74 => ⟨S2048x128x256, .i1⟩
  | 75 => ⟨S1x128x256, .f32⟩
  | 76 => ⟨S_, .f32⟩
  | 77 => ⟨S1x128x256, .f32⟩
  | 78 => ⟨S1x128x256, .i1⟩
  | 79 => ⟨S_, .f32⟩
  | 80 => ⟨S1x128x256, .f32⟩
  | 81 => ⟨S1x128x256, .f32⟩
  | 82 => ⟨S1x128x256, .f32⟩
  | 83 => ⟨S_, .f32⟩
  | 84 => ⟨S1x128x256, .f32⟩
  | 85 => ⟨S1x128x256, .i1⟩
  | 86 => ⟨S_, .f32⟩
  | 87 => ⟨S_, .f32⟩
  | 88 => ⟨S2048x128x256, .f32⟩
  | 89 => ⟨S2048x128x256, .f32⟩
  | 90 => ⟨S_, .f32⟩
  | 91 => ⟨S_, .f32⟩
  | 92 => ⟨S2048x128x256, .f32⟩
  | 93 => ⟨S2048x128x256, .f32⟩
  | 94 => ⟨S_, .f32⟩
  | 95 => ⟨S_, .f32⟩
  | 96 => ⟨S1x128x256, .f32⟩
  | 97 => ⟨S1x128x256, .f32⟩
  | 98 => ⟨S_, .f32⟩
  | 99 => ⟨S1x128x256, .f32⟩
  | 100 => ⟨S1x128x256, .f32⟩
  | 101 => ⟨S_, .f32⟩
  | 102 => ⟨S_, .f32⟩
  | 103 => ⟨S1x128x256, .f32⟩
  | 104 => ⟨S1x128x256, .f32⟩
  | 105 => ⟨S_, .f32⟩
  | 106 => ⟨S2048x128x256, .f32⟩
  | 107 => ⟨S2048x128x256, .f32⟩
  | 108 => ⟨S2048x128x256, .f32⟩
  | 109 => ⟨S2048x128x256, .f32⟩
  | 110 => ⟨S_, .f32⟩
  | 111 => ⟨S2048x128x256, .f32⟩
  | 112 => ⟨S2048x128x256, .f32⟩
  | 113 => ⟨S2048x128x256, .f32⟩
  | 114 => ⟨S2048x128x256, .f32⟩
  | 115 => ⟨S2048x128x256, .f32⟩
  | 116 => ⟨S2048x128x256, .i1⟩
  | 117 => ⟨S2048x128x256, .f32⟩
  | 118 => ⟨S_, .f32⟩
  | 119 => ⟨S2048x128x256, .f32⟩
  | 120 => ⟨S2048x128x256, .f32⟩
  | 121 => ⟨S_, .f32⟩
  | 122 => ⟨S1x128x256, .f32⟩
  | 123 => ⟨S1x128x256, .f32⟩
  | 124 => ⟨S2048x128x256, .f32⟩
  | 125 => ⟨S2048x128x256, .f32⟩
  | 126 => ⟨S_, .f32⟩
  | 127 => ⟨S2048x128x256, .f32⟩
  | _ => ⟨S2048x128x256, .f32⟩

abbrev hbmTy0_1 (i : Nat) : BufTy := match i % 128 with
  | 0 => ⟨S2048x128x256, .f32⟩
  | 1 => ⟨S2048x128x256, .f32⟩
  | 2 => ⟨S2048x128x256, .f32⟩
  | 3 => ⟨S2048x128x256, .f32⟩
  | 4 => ⟨S2048x128x256, .f32⟩
  | 5 => ⟨S2048x128x256, .f32⟩
  | 6 => ⟨S2048x128x256, .i1⟩
  | 7 => ⟨S2048x128x256, .f32⟩
  | 8 => ⟨S2048x128x256, .f32⟩
  | _ => ⟨S2048x128x256, .f32⟩

abbrev hbmTy (i : Nat) : BufTy := match i / 128 with
  | 0 => hbmTy0_0 i
  | 1 => hbmTy0_1 i
  | _ => ⟨S2048x128x256, .f32⟩

abbrev bufTy : (tb : Table) → Fin (tcTables nBuf tb) → BufTy
  | .hbm, ⟨i, _⟩ => hbmTy i
  | _, _ => ⟨S2048x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_call0_v0 : Ref sig .tc := ⟨.hbm, 66, rfl⟩
abbrev main_call0_v1 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_cst_15 : Ref sig .tc := ⟨.hbm, 86, rfl⟩
abbrev main_call1_v0 : Ref sig .tc := ⟨.hbm, 87, rfl⟩
abbrev main_call1_v1 : Ref sig .tc := ⟨.hbm, 88, rfl⟩
abbrev main_v62 : Ref sig .tc := ⟨.hbm, 89, rfl⟩
abbrev main_cst_16 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_cst_17 : Ref sig .tc := ⟨.hbm, 94, rfl⟩
abbrev main_call3_v0 : Ref sig .tc := ⟨.hbm, 95, rfl⟩
abbrev main_call3_v1 : Ref sig .tc := ⟨.hbm, 96, rfl⟩
abbrev main_v64 : Ref sig .tc := ⟨.hbm, 97, rfl⟩
abbrev main_cst_18 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_call4_v0 : Ref sig .tc := ⟨.hbm, 102, rfl⟩
abbrev main_call4_v1 : Ref sig .tc := ⟨.hbm, 103, rfl⟩
abbrev main_v67 : Ref sig .tc := ⟨.hbm, 104, rfl⟩
abbrev main_cst_20 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_21 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_call5_v0 : Ref sig .tc := ⟨.hbm, 116, rfl⟩
abbrev main_v77 : Ref sig .tc := ⟨.hbm, 117, rfl⟩
abbrev main_cst_22 : Ref sig .tc := ⟨.hbm, 118, rfl⟩
abbrev main_v78 : Ref sig .tc := ⟨.hbm, 119, rfl⟩
abbrev main_v79 : Ref sig .tc := ⟨.hbm, 120, rfl⟩
abbrev main_cst_23 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_24 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call6_v0 : Ref sig .tc := ⟨.hbm, 134, rfl⟩
abbrev main_v91 : Ref sig .tc := ⟨.hbm, 135, rfl⟩
abbrev main_v92 : Ref sig .tc := ⟨.hbm, 136, rfl⟩

abbrev nD : Nat := 1
abbrev τ : Topo := Topo.v7x

variable {F : FTy → Type} [FloatOps F]
-- ==== Proof.KernelRuns.lean ====
/- The frame of the printed kernel, first part, copied from the text generated for it: the launch's contents on entry, the conditions of the body in
   closed form, the buffers at a point, and the pieces that the runs share. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 2 rfl).trans ((hA c 2).trans (V_main_arg4 m c)),
      (Pipeline.RDat.FramePost.arr_in h c 3 rfl).trans ((hA c 3).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 0).val) 32#32)) 0#32) = 1#1
/-- It holds at the points before point 32 — decided over the grid. -/
theorem hcond0_1 : ∀ t : Fin cfg0.N, cond0_1 (grid0.coords t) ↔ t.val < 32 :=
  (by decide +kernel : ∀ t : Fin grid0.N, cond0_1 (grid0.coords t) ↔ t.val < 32)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 31#32)) 0#32) = 1#1
/-- It holds at point 31 only — by arithmetic of the point. -/
theorem hcond0_2 : ∀ t : Fin cfg0.N, cond0_2 (grid0.coords t) ↔ t.val % 64 = 31 :=
  (fun t => by
    have ht : t.val < 64 := Nat.lt_of_lt_of_eq t.isLt N_0
    have e0 : (grid0.coords t 0).val = t.val / 1 % 64 := Pipeline.Grid.coords_val t 0 (by decide) rfl
    simp only [cond0_2, e0]
    word_cmp
   : ∀ t : Fin grid0.N, cond0_2 (grid0.coords t) ↔ t.val % 64 = 31)

/-- The condition of the body's `scf.if` 3 (`k0_h4`), from the grid coordinates (the skeleton's scalar
    chain substituted). -/
abbrev cond0_3 (i : grid0.Coords) : Prop := k0_cond4 i = 1#1
/-- It holds at the points from point 32 on — decided over the grid. -/
theorem hcond0_3 : ∀ t : Fin cfg0.N, cond0_3 (grid0.coords t) ↔ 32 ≤ t.val :=
  (by decide +kernel : ∀ t : Fin grid0.N, cond0_3 (grid0.coords t) ↔ 32 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S64x128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128x256 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S128x256 .f32 := Memref.whole cc0_scratch0
abbrev scM0_1 : Memref sig .tc .vmem S128x256 .f32 := Memref.whole cc0_scratch1
/-- The scratch `arg6` the kernel carries between points, as a view: what it holds is stated through it. -/
abbrev VS0_0 : View sig .tc .vmem S128x256 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KernelRunA.lean ====
/- The frame of the printed kernel, copied from the text generated for it: the body's run at the first point. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_A (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : cond0_0 i) (hc1 : cond0_1 i) (hc2 : ¬cond0_2 i) (hc3 : ¬cond0_3 i)
    (x0 : Vec F S64x128x256 .f32) (x1 : Vec F S128x256 .f32) (x2 : Vec F S128x128 .f32) (x3 : Vec F S128x128 .f32) :
    { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ f, arg6.view.loc (c : Thread nD τ) ↦[arg6.view.set]{fullShare} arg6.view.writes (Elt F) f LS0) ∗ (∃ d, owns (c : Thread nD τ) arg7 fullShare d)) -∗ K ⟨⟩))
          ⊢ wp frame (wpE (defs₀ (F := F)) Variants.none c none) E (cc0_dain_fused i arg1 harg1 arg2 harg2 arg3 harg3 arg4 harg4 arg5 harg5 arg6 harg6 arg7 harg7) K } := by
  refine ⟨?_, fun E K => ?run⟩
  case run =>
    simp only [cc0_dain_fused_eq_skeleton]; unfold cc0_dain_fused_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]; · iexists _; iexact HS0
    iexists _, _; isplitr; swap; · iexact HS1
    ipureintro; rfl

end Cert.Kernel.Hand

end
-- ==== Proof.KernelRunB.lean ====
/- The frame of the printed kernel, copied from the text generated for it: the body's run at a later accumulating point. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken, `scf.if` 3 not taken: points 1, 2, … 30: 30 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_B (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : ¬cond0_0 i) (hc1 : cond0_1 i) (hc2 : ¬cond0_2 i) (hc3 : ¬cond0_3 i)
    (x0 : Vec F S64x128x256 .f32) (x1 : Vec F S128x256 .f32) (x2 : Vec F S128x128 .f32) (x3 : Vec F S128x128 .f32) (xs0 : Vec F S128x256 .f32) :
    { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ f, arg6.view.loc (c : Thread nD τ) ↦[arg6.view.set]{fullShare} arg6.view.writes (Elt F) f LS0) ∗ (∃ d, owns (c : Thread nD τ) arg7 fullShare d)) -∗ K ⟨⟩))
          ⊢ wp frame (wpE (defs₀ (F := F)) Variants.none c none) E (cc0_dain_fused i arg1 harg1 arg2 harg2 arg3 harg3 arg4 harg4 arg5 harg5 arg6 harg6 arg7 harg7) K } := by
  refine ⟨?_, fun E K => ?run⟩
  case run =>
    simp only [cc0_dain_fused_eq_skeleton]; unfold cc0_dain_fused_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]; · iexists _; iexact HS0
    iexists _, _; isplitr; swap; · iexact HS1
    ipureintro; rfl

end Cert.Kernel.Hand

end
-- ==== Proof.KernelRunC.lean ====
/- The frame of the printed kernel, copied from the text generated for it: the body's run at the last accumulating point. -/
module

public import proofs.«01_k».proof.Proof.KernelRunB

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken, `scf.if` 3 not taken: points 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_C (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : ¬cond0_0 i) (hc1 : cond0_1 i) (hc2 : cond0_2 i) (hc3 : ¬cond0_3 i)
    (x0 : Vec F S64x128x256 .f32) (x1 : Vec F S128x256 .f32) (x2 : Vec F S128x128 .f32) (x3 : Vec F S128x128 .f32) (xs0 : Vec F S128x256 .f32) :
    { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ f, arg6.view.loc (c : Thread nD τ) ↦[arg6.view.set]{fullShare} arg6.view.writes (Elt F) f LS0) ∗ (∃ d, owns (c : Thread nD τ) arg7 fullShare d)) -∗ K ⟨⟩))
          ⊢ wp frame (wpE (defs₀ (F := F)) Variants.none c none) E (cc0_dain_fused i arg1 harg1 arg2 harg2 arg3 harg3 arg4 harg4 arg5 harg5 arg6 harg6 arg7 harg7) K } := by
  refine ⟨?_, fun E K => ?run⟩
  case run =>
    simp only [cc0_dain_fused_eq_skeleton]; unfold cc0_dain_fused_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]; · iexists _; iexact HS0
    iexists _, _; isplitr; swap; · iexact HS1
    ipureintro; rfl

end Cert.Kernel.Hand

end
-- ==== Proof.KernelRunD.lean ====
/- The frame of the printed kernel, copied from the text generated for it: the body's run at a point of the second phase. -/
module

public import proofs.«01_k».proof.Proof.KernelRunC

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1020000 in
/-- What the body's stores leave in each output's staging memref, as pieces (last first) IN CASE D (`scf.if` 0 not taken, `scf.if` 1 not taken, `scf.if` 2 not taken, `scf.if` 3 taken: points 32, 33, … 63: 32 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_D (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : ¬cond0_0 i) (hc1 : ¬cond0_1 i) (hc2 : ¬cond0_2 i) (hc3 : cond0_3 i)
    (x0 : Vec F S64x128x256 .f32) (x1 : Vec F S128x256 .f32) (x2 : Vec F S128x128 .f32) (x3 : Vec F S128x128 .f32) (xs0 : Vec F S128x256 .f32) :
    { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d)) -∗ K ⟨⟩))
          ⊢ wp frame (wpE (defs₀ (F := F)) Variants.none c none) E (cc0_dain_fused i arg1 harg1 arg2 harg2 arg3 harg3 arg4 harg4 arg5 harg5 arg6 harg6 arg7 harg7) K } := by
  refine ⟨[], fun E K => ?run⟩
  case run =>
    simp only [cc0_dain_fused_eq_skeleton]; unfold cc0_dain_fused_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]
    · iexists _; isplitr; · ipureintro; exact harg6.read_unread _
      iexact HS0
    iexists _, _; isplitr; swap; · iexact HS1
    ipureintro; rfl

end Cert.Kernel.Hand

end
-- ==== Proof.KernelFrame.lean ====
/- The frame of the printed kernel, last part, copied from the text generated for it: what the carried sum holds point by point, the proof data
   (nothing is said of the output), the body's obligation, the run and the frame. -/
module

public import proofs.«01_k».proof.Proof.KernelRunD
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg6`, which the kernel carries between points, cover it: 2 pieces of `S128x256` tiling it (Lib/Ring.lean `Piece.tiledL`). -/
theorem scover0_A_0 (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : cond0_0 i) (hc1 : cond0_1 i) (hc2 : ¬cond0_2 i) (hc3 : ¬cond0_3 i)
    (x0 : Vec F S64x128x256 .f32) (x1 : Vec F S128x256 .f32) (x2 : Vec F S128x128 .f32) (x3 : Vec F S128x128 .f32) (y : S128x256.Idx) :
    ∃ pc ∈ (kernelRun0_A c i arg1 harg1 arg2 harg2 arg3 harg3 arg4 harg4 arg5 harg5 arg6 harg6 arg7 harg7 hc0 hc1 hc2 hc3 x0 x1 x2 x3).1, y ∈ pc.1.set :=
  View.cover_of_tiledL (kernelRun0_A c i arg1 harg1 arg2 harg2 arg3 harg3 arg4 harg4 arg5 harg5 arg6 harg6 arg7 harg7 hc0 hc1 hc2 hc3 x0 x1 x2 x3).1 S128x256.size (by sl_kernel_rfl) y

/-- What case A leaves in scratch `arg6`: its pieces read back over junk. -/
def sout0_A_0 (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : cond0_0 i) (hc1 : cond0_1 i) (hc2 : ¬cond0_2 i) (hc3 : ¬cond0_3 i)
    (x0 : Vec F S64x128x256 .f32) (x1 : Vec F S128x256 .f32) (x2 : Vec F S128x128 .f32) (x3 : Vec F S128x128 .f32) : Vec F S128x256 .f32 :=
  VS0_0.read (Elt F) (VS0_0.writes (Elt F) VS0_0.junk (kernelRun0_A c i arg1 harg1 arg2 harg2 arg3 harg3 arg4 harg4 arg5 harg5 arg6 harg6 arg7 harg7 hc0 hc1 hc2 hc3 x0 x1 x2 x3).1)

/-- Case B's pieces for scratch `arg6`, which the kernel carries between points, cover it: 1 piece of `S128x256` tiling it (Lib/Ring.lean `Piece.tiledL`). -/
theorem scover0_B_0 (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : ¬cond0_0 i) (hc1 : cond0_1 i) (hc2 : ¬cond0_2 i) (hc3 : ¬cond0_3 i)
    (x0 : Vec F S64x128x256 .f32) (x1 : Vec F S128x256 .f32) (x2 : Vec F S128x128 .f32) (x3 : Vec F S128x128 .f32) (xs0 : Vec F S128x256 .f32) (y : S128x256.Idx) :
    ∃ pc ∈ (kernelRun0_B c i arg1 harg1 arg2 harg2 arg3 harg3 arg4 harg4 arg5 harg5 arg6 harg6 arg7 harg7 hc0 hc1 hc2 hc3 x0 x1 x2 x3 xs0).1, y ∈ pc.1.set :=
  View.cover_of_tiledL (kernelRun0_B c i arg1 harg1 arg2 harg2 arg3 harg3 arg4 harg4 arg5 harg5 arg6 harg6 arg7 harg7 hc0 hc1 hc2 hc3 x0 x1 x2 x3 xs0).1 S128x256.size (by sl_kernel_rfl) y

/-- What case B leaves in scratch `arg6`: its pieces read back over junk. -/
def sout0_B_0 (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : ¬cond0_0 i) (hc1 : cond0_1 i) (hc2 : ¬cond0_2 i) (hc3 : ¬cond0_3 i)
    (x0 : Vec F S64x128x256 .f32) (x1 : Vec F S128x256 .f32) (x2 : Vec F S128x128 .f32) (x3 : Vec F S128x128 .f32) (xs0 : Vec F S128x256 .f32) : Vec F S128x256 .f32 :=
  VS0_0.read (Elt F) (VS0_0.writes (Elt F) VS0_0.junk (kernelRun0_B c i arg1 harg1 arg2 harg2 arg3 harg3 arg4 harg4 arg5 harg5 arg6 harg6 arg7 harg7 hc0 hc1 hc2 hc3 x0 x1 x2 x3 xs0).1)

/-- Case C's pieces for scratch `arg6`, which the kernel carries between points, cover it: 2 pieces of `S128x256` tiling it (Lib/Ring.lean `Piece.tiledL`). -/
theorem scover0_C_0 (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : ¬cond0_0 i) (hc1 : cond0_1 i) (hc2 : cond0_2 i) (hc3 : ¬cond0_3 i)
    (x0 : Vec F S64x128x256 .f32) (x1 : Vec F S128x256 .f32) (x2 : Vec F S128x128 .f32) (x3 : Vec F S128x128 .f32) (xs0 : Vec F S128x256 .f32) (y : S128x256.Idx) :
    ∃ pc ∈ (kernelRun0_C c i arg1 harg1 arg2 harg2 arg3 harg3 arg4 harg4 arg5 harg5 arg6 harg6 arg7 harg7 hc0 hc1 hc2 hc3 x0 x1 x2 x3 xs0).1, y ∈ pc.1.set :=
  View.cover_of_tiledL (kernelRun0_C c i arg1 harg1 arg2 harg2 arg3 harg3 arg4 harg4 arg5 harg5 arg6 harg6 arg7 harg7 hc0 hc1 hc2 hc3 x0 x1 x2 x3 xs0).1 S128x256.size (by sl_kernel_rfl) y

/-- What case C leaves in scratch `arg6`: its pieces read back over junk. -/
def sout0_C_0 (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : ¬cond0_0 i) (hc1 : cond0_1 i) (hc2 : cond0_2 i) (hc3 : ¬cond0_3 i)
    (x0 : Vec F S64x128x256 .f32) (x1 : Vec F S128x256 .f32) (x2 : Vec F S128x128 .f32) (x3 : Vec F S128x128 .f32) (xs0 : Vec F S128x256 .f32) : Vec F S128x256 .f32 :=
  VS0_0.read (Elt F) (VS0_0.writes (Elt F) VS0_0.junk (kernelRun0_C c i arg1 harg1 arg2 harg2 arg3 harg3 arg4 harg4 arg5 harg5 arg6 harg6 arg7 harg7 hc0 hc1 hc2 hc3 x0 x1 x2 x3 xs0).1)

/-- Case D stores nothing into scratch `arg6`: it holds what the point before left. -/
def sout0_D_0 (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : ¬cond0_0 i) (hc1 : ¬cond0_1 i) (hc2 : ¬cond0_2 i) (hc3 : cond0_3 i)
    (x0 : Vec F S64x128x256 .f32) (x1 : Vec F S128x256 .f32) (x2 : Vec F S128x128 .f32) (x3 : Vec F S128x128 .f32) (xs0 : Vec F S128x256 .f32) : Vec F S128x256 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x256 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 64 = 0 then
      if h1 : (n + 1) < 32 then
        if h2 : (n + 1) % 64 = 31 then
          False.elim (by have hN : n + 1 < 64 := lt_of_lt_of_eq hn (show cfg0.N = 64 from N_0); omega)
        else
          if h3 : 32 ≤ (n + 1) then
            False.elim (by have hN : n + 1 < 64 := lt_of_lt_of_eq hn (show cfg0.N = 64 from N_0); omega)
          else
            sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩)
      else
        False.elim (by have hN : n + 1 < 64 := lt_of_lt_of_eq hn (show cfg0.N = 64 from N_0); omega)
    else
      if h1 : (n + 1) < 32 then
        if h2 : (n + 1) % 64 = 31 then
          if h3 : 32 ≤ (n + 1) then
            False.elim (by have hN : n + 1 < 64 := lt_of_lt_of_eq hn (show cfg0.N = 64 from N_0); omega)
          else
            sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
        else
          if h3 : 32 ≤ (n + 1) then
            False.elim (by have hN : n + 1 < 64 := lt_of_lt_of_eq hn (show cfg0.N = 64 from N_0); omega)
          else
            sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
      else
        if h2 : (n + 1) % 64 = 31 then
          False.elim (by have hN : n + 1 < 64 := lt_of_lt_of_eq hn (show cfg0.N = 64 from N_0); omega)
        else
          if h3 : 32 ≤ (n + 1) then
            sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
          else
            False.elim (by have hN : n + 1 < 64 := lt_of_lt_of_eq hn (show cfg0.N = 64 from N_0); omega)

/-- `outsAt0` at a point of case A: that case's contents. -/
theorem outsAt0_A (c : Dev nD) (t : Fin cfg0.N) (h0 : t.val % 64 = 0) (h1 : t.val < 32) (h2 : ¬t.val % 64 = 31) (h3 : ¬32 ≤ t.val) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 64 = 0) (h1 : t.val < 32) (h2 : ¬t.val % 64 = 31) (h3 : ¬32 ≤ t.val) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 64 = 0) (h1 : t.val < 32) (h2 : t.val % 64 = 31) (h3 : ¬32 ≤ t.val) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_pos h2).trans ((dif_neg h3).trans rfl)))

/-- `outsAt0` at a point of case D: that case's contents, over what the point before left. -/
theorem outsAt0_D (c : Dev nD) (t : Fin cfg0.N) (h0 : ¬t.val % 64 = 0) (h1 : ¬t.val < 32) (h2 : ¬t.val % 64 = 31) (h3 : 32 ≤ t.val) :
    outsAt0 m c t.val t.isLt = sout0_D_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases h1 : t.val < 32
    · by_cases h2 : t.val % 64 = 31
      · exfalso; omega
      · by_cases h3 : 32 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          by_cases hz : t.val = 0
          · rw [PhiS_castSucc m c t, PhiS_zero m c _ _ hz, PhiA0_eq]
            rw [outsAt0_A m c t h0 h1 h2 h3]
            unfold sout0_A_0
            iintro ⟨⟨⟨HS0, HS1⟩, Hg⟩, Ho, ⟨%d0, H0⟩, ⟨%d1, H1⟩, ⟨%d2, H2⟩, ⟨%d3, H3⟩, ⟨%d4, H4⟩⟩
            iapply ((kernelRun0_A c (grid0.coords t) _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)).2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HS1]; · iexact HS1
            iintro ⟨H0, H1, H2, H3, H4, ⟨%es0, HS0⟩, HS1⟩
            isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _)
                iexact HS1
              iexact Hg
            isplitl [Ho]; · iexact Ho
            isplitl [H0]; · iexact H0
            isplitl [H1]; · iexact H1
            isplitl [H2]; · iexact H2
            isplitl [H3]; · iexact H3
            iexact H4
          · exfalso; have hN : t.val < 64 := lt_of_lt_of_eq t.isLt (show cfg0.N = 64 from N_0); omega
    · exfalso; omega
  · by_cases h1 : t.val < 32
    · by_cases h2 : t.val % 64 = 31
      · by_cases h3 : 32 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          by_cases hz : t.val = 0
          · exfalso; have hN : t.val < 64 := lt_of_lt_of_eq t.isLt (show cfg0.N = 64 from N_0); omega
          · rw [PhiS_castSucc m c t, PhiS_pos m c _ _ hz]
            rw [outsAt0_C m c t h0 h1 h2 h3]
            unfold sout0_C_0
            iintro ⟨⟨⟨HS0, HS1⟩, Hg⟩, Ho, ⟨%d0, H0⟩, ⟨%d1, H1⟩, ⟨%d2, H2⟩, ⟨%d3, H3⟩, ⟨%d4, H4⟩⟩
            iapply ((kernelRun0_C c (grid0.coords t) _ _ _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) _).2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HS1]; · iexact HS1
            iintro ⟨H0, H1, H2, H3, H4, ⟨%es0, HS0⟩, HS1⟩
            isplitl [HS0 HS1 Hg]
            · isplitl [HS0 HS1]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _)
                iexact HS1
              iexact Hg
            isplitl [Ho]; · iexact Ho
            isplitl [H0]; · iexact H0
            isplitl [H1]; · iexact H1
            isplitl [H2]; · iexact H2
            isplitl [H3]; · iexact H3
            iexact H4
      · by_cases h3 : 32 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          by_cases hz : t.val = 0
          · exfalso; have hN : t.val < 64 := lt_of_lt_of_eq t.isLt (show cfg0.N = 64 from N_0); omega
          · rw [PhiS_castSucc m c t, PhiS_pos m c _ _ hz]
            rw [outsAt0_B m c t h0 h1 h2 h3]
            unfold sout0_B_0
            iintro ⟨⟨⟨HS0, HS1⟩, Hg⟩, Ho, ⟨%d0, H0⟩, ⟨%d1, H1⟩, ⟨%d2, H2⟩, ⟨%d3, H3⟩, ⟨%d4, H4⟩⟩
            iapply ((kernelRun0_B c (grid0.coords t) _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) _).2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HS1]; · iexact HS1
            iintro ⟨H0, H1, H2, H3, H4, ⟨%es0, HS0⟩, HS1⟩
            isplitl [HS0 HS1 Hg]
            · isplitl [HS0 HS1]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _)
                iexact HS1
              iexact Hg
            isplitl [Ho]; · iexact Ho
            isplitl [H0]; · iexact H0
            isplitl [H1]; · iexact H1
            isplitl [H2]; · iexact H2
            isplitl [H3]; · iexact H3
            iexact H4
    · by_cases h2 : t.val % 64 = 31
      · exfalso; omega
      · by_cases h3 : 32 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          by_cases hz : t.val = 0
          · exfalso; have hN : t.val < 64 := lt_of_lt_of_eq t.isLt (show cfg0.N = 64 from N_0); omega
          · rw [PhiS_castSucc m c t, PhiS_pos m c _ _ hz]
            rw [outsAt0_D m c t h0 h1 h2 h3]
            unfold sout0_D_0
            iintro ⟨⟨⟨HS0, HS1⟩, Hg⟩, Ho, ⟨%d0, H0⟩, ⟨%d1, H1⟩, ⟨%d2, H2⟩, ⟨%d3, H3⟩, ⟨%d4, H4⟩⟩
            iapply ((kernelRun0_D c (grid0.coords t) _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) _).2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HS1]; · iexact HS1
            iintro ⟨H0, H1, H2, H3, H4, HS0, HS1⟩
            isplitl [HS0 HS1 Hg]
            · isplitl [HS0 HS1]
              · isplitl [HS0]
                · iexact HS0
                iexact HS1
              iexact Hg
            isplitl [Ho]; · iexact Ho
            isplitl [H0]; · iexact H0
            isplitl [H1]; · iexact H1
            isplitl [H2]; · iexact H2
            isplitl [H3]; · iexact H3
            iexact H4
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The printed kernel ends with its arguments as they were and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.Body.lean ====
module

public import proofs.«01_k».proof.Proof.Gen.KernelIdeal.Frame
public import proofs.«01_k».proof.Proof.Gen.KernelIdeal.Skeleton
public import Idealize.ShloMosaic.Lib.Pipeline.ValueKit

@[expose] public section

-- a rectangle of production extents is looked at one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body at one grid point of the accumulating phase. -/

/-! ## The four branches of the body, as conditions on the grid point -/

/-- The body clears the running sum. -/
abbrev clears (i : grid0.Coords) : Prop := (Scalar.cmpi .ne (Scalar.extui (Scalar.cmpi .eq (BitVec.ofNat 32 (i 0).val) 0#32)) 0#32) = 1#1
/-- The body adds a block to the running sum. -/
abbrev adds (i : grid0.Coords) : Prop := (Scalar.cmpi .ne (Scalar.extui (Scalar.cmpi .slt (BitVec.ofNat 32 (i 0).val) 32#32)) 0#32) = 1#1
/-- The body turns the running sum into the mean and stores the gate. -/
abbrev scales (i : grid0.Coords) : Prop := (Scalar.cmpi .ne (Scalar.extui (Scalar.cmpi .eq (BitVec.ofNat 32 (i 0).val) 31#32)) 0#32) = 1#1
/-- The body computes an output block. -/
abbrev emits (i : grid0.Coords) : Prop := k0_cond4 i = 1#1

/-- The sum is cleared at the first point only. -/
theorem clears_iff : ∀ t : Fin cfg0.N, clears (grid0.coords t) ↔ t.val = 0 :=
  (by decide +kernel : ∀ t : Fin grid0.N, clears (grid0.coords t) ↔ t.val = 0)
/-- Blocks are added in the first 32 points. -/
theorem adds_iff : ∀ t : Fin cfg0.N, adds (grid0.coords t) ↔ t.val < 32 :=
  (by decide +kernel : ∀ t : Fin grid0.N, adds (grid0.coords t) ↔ t.val < 32)
/-- The mean and the gate are formed at point 31 only. -/
theorem scales_iff : ∀ t : Fin cfg0.N, scales (grid0.coords t) ↔ t.val = 31 :=
  (by decide +kernel : ∀ t : Fin grid0.N, scales (grid0.coords t) ↔ t.val = 31)
/-- Output blocks are computed from point 32 on. -/
theorem emits_iff : ∀ t : Fin cfg0.N, emits (grid0.coords t) ↔ 32 ≤ t.val :=
  (by decide +kernel : ∀ t : Fin grid0.N, emits (grid0.coords t) ↔ 32 ≤ t.val)

/-! ## The two scratch buffers -/

/-- The running sum, later the mean. -/
abbrev sumM : Memref sig .tc .vmem S128x256 .f32 := Memref.whole cc0_scratch0
/-- The gate. -/
abbrev gateM : Memref sig .tc .vmem S128x256 .f32 := Memref.whole cc0_scratch1

/-- What the launch hands the region, with the two scratch buffers as memrefs at some contents. -/
theorem PhiA_eq (c : Dev nD) :
    (Pipeline.ΦA spec0 c : sProp 𝕄)
      = iprop(iprop((∃ d, owns (c : Thread nD τ) sumM fullShare d) ∗ (∃ d, owns (c : Thread nD τ) gateM fullShare d)) ∗ (∃ r, prngReg c r)) := by
  unfold Pipeline.ΦA; rw [scopedRest0_eq]; simp only [sumM, gateM, owns_whole]; try rfl

/-- The origin of a matrix. -/
theorem zero2 : ∀ a : Fin 2, (![0, 0] : Fin 2 → Nat) a = 0 := by decide
/-- The origin of a stack of matrices. -/
theorem zero3 : ∀ a : Fin 3, (![0, 0, 0] : Fin 3 → Nat) a = 0 := by decide

/-- Whatever a buffer held, after a list of stores the newest of which fills it whole it reads as that store's payload. -/
theorem read_newest {s : Shape} {e : EltTy} (v : View sig .tc .vmem s e) (f : v.ty.Contents (Elt F)) {off : Fin s.rank → Nat}
    (inb : ∀ a, off a + s.size a ≤ s.size a) (w : s.Idx → Elt F e) (L : List (View.Piece (Elt F) s e)) (h : ∀ a, off a = 0) :
    v.read (Elt F) (v.writes (Elt F) f (⟨Rect.unit off s.size inb, w⟩ :: L)) = w := by
  have hcov : ∀ y : s.Idx, ∃ p ∈ ((⟨Rect.unit off s.size inb, w⟩ : View.Piece (Elt F) s e) :: L), y ∈ p.1.set := fun y =>
    ⟨⟨Rect.unit off s.size inb, w⟩, List.mem_cons_self, by
      refine (Rect.mem_set_unit (inb := inb)).mpr fun a => ?_
      have h1 := (y a).isLt
      have h2 := h a
      exact ⟨by omega, by omega⟩⟩
  rw [View.read_writes_eq_canon v f _ hcov]
  exact View.canon_cons_unit_lit inb w L h

/-- Loading a whole buffer reads its contents. -/
theorem load_whole {s : Shape} {e : EltTy} (v : View sig .tc .vmem s e) (f : v.ty.Contents (Elt F)) {off : Fin s.rank → Nat}
    (inb : ∀ a, off a + s.size a ≤ s.size a) (h : ∀ a, off a = 0) :
    v.readAt (Elt F) (Rect.unit off s.size inb).toLoadRect f = v.read (Elt F) f :=
  (View.readAt_eq_ld v f _).trans (View.ld_unit_lit inb _ h)

/-- Loading a whole buffer after a list of stores the newest of which fills it whole reads that store's payload. -/
theorem load_newest {s : Shape} {e : EltTy} (v : View sig .tc .vmem s e) {off off' : Fin s.rank → Nat}
    (inb : ∀ a, off a + s.size a ≤ s.size a) (inb' : ∀ a, off' a + s.size a ≤ s.size a) (w : s.Idx → Elt F e)
    (L : List (View.Piece (Elt F) s e)) (h : ∀ a, off a = 0) (h' : ∀ a, off' a = 0) :
    v.readCov (⟨Rect.unit off s.size inb, w⟩ :: L) (Rect.unit off' s.size inb').toLoadRect = w :=
  (load_whole v _ inb' h').trans (read_newest v _ inb w L h)

/-- The first point: the running sum ends as the block's column sums added to zero. -/
theorem run_first (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : clears i) (hc1 : adds i) (hc2 : ¬scales i) (hc3 : ¬emits i)
    (x0 : Vec F S64x128x256 .f32) (x1 : Vec F S128x256 .f32) (x2 : Vec F S128x128 .f32) (x3 : Vec F S128x128 .f32) (d4 : Vec F S64x128x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ owns (c : Thread nD τ) arg6 fullShare (k0_pay2 k0_pay1 x0) ∗ (∃ d, owns (c : Thread nD τ) arg7 fullShare d)) -∗ K ⟨⟩))
      ⊢ wp frame (wpE (defs₀ (F := F)) Variants.none c none) E (cc0_dain_fused i arg1 harg1 arg2 harg2 arg3 harg3 arg4 harg4 arg5 harg5 arg6 harg6 arg7 harg7) K := by
  simp only [cc0_dain_fused_eq_skeleton]; unfold cc0_dain_fused_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact hf4
    iexact H4
  isplitl [HS0]
  · iexists _; isplitr
    swap; · iexact HS0
    ipureintro
    refine (read_newest _ _ _ _ _ zero2).trans ?_
    unfold run_first.sl.v12 run_first.sl.HS0_1
    rw [load_newest _ _ _ _ _ zero2 zero2, load_whole _ _ _ zero3, harg1.read_unread]
  iexists _, _; isplitr; swap; · iexact HS1
  ipureintro; rfl

/-- Points 1 to 30: the running sum grows by the block's column sums. -/
theorem run_add (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : ¬clears i) (hc1 : adds i) (hc2 : ¬scales i) (hc3 : ¬emits i)
    (x0 : Vec F S64x128x256 .f32) (x1 : Vec F S128x256 .f32) (x2 : Vec F S128x128 .f32) (x3 : Vec F S128x128 .f32) (d4 : Vec F S64x128x256 .f32) (xs : Vec F S128x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ owns (c : Thread nD τ) arg6 fullShare xs ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ owns (c : Thread nD τ) arg6 fullShare (k0_pay2 xs x0) ∗ (∃ d, owns (c : Thread nD τ) arg7 fullShare d)) -∗ K ⟨⟩))
      ⊢ wp frame (wpE (defs₀ (F := F)) Variants.none c none) E (cc0_dain_fused i arg1 harg1 arg2 harg2 arg3 harg3 arg4 harg4 arg5 harg5 arg6 harg6 arg7 harg7) K := by
  simp only [cc0_dain_fused_eq_skeleton]; unfold cc0_dain_fused_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg6.eq_unread hfs0
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact hf4
    iexact H4
  isplitl [HS0]
  · iexists _; isplitr
    swap; · iexact HS0
    ipureintro
    refine (read_newest _ _ _ _ _ zero2).trans ?_
    rw [load_whole _ _ _ zero2, load_whole _ _ _ zero3, harg1.read_unread, harg6.read_unread]
  iexists _, _; isplitr; swap; · iexact HS1
  ipureintro; rfl

/-- Point 31: the running sum grows by the block's column sums and is scaled to the mean; the gate is stored. -/
theorem run_scale (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : ¬clears i) (hc1 : adds i) (hc2 : scales i) (hc3 : ¬emits i)
    (x0 : Vec F S64x128x256 .f32) (x1 : Vec F S128x256 .f32) (x2 : Vec F S128x128 .f32) (x3 : Vec F S128x128 .f32) (d4 : Vec F S64x128x256 .f32) (xs : Vec F S128x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ owns (c : Thread nD τ) arg6 fullShare xs ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ owns (c : Thread nD τ) arg6 fullShare (k0_pay3 (k0_pay2 xs x0)) ∗ owns (c : Thread nD τ) arg7 fullShare (k0_pay4 x1)) -∗ K ⟨⟩))
      ⊢ wp frame (wpE (defs₀ (F := F)) Variants.none c none) E (cc0_dain_fused i arg1 harg1 arg2 harg2 arg3 harg3 arg4 harg4 arg5 harg5 arg6 harg6 arg7 harg7) K := by
  simp only [cc0_dain_fused_eq_skeleton]; unfold cc0_dain_fused_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg6.eq_unread hfs0
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact hf4
    iexact H4
  isplitl [HS0]
  · iexists _; isplitr
    swap; · iexact HS0
    ipureintro
    refine (read_newest _ _ _ _ _ zero2).trans ?_
    unfold run_scale.sl.v12 run_scale.sl.HS0_1
    rw [load_newest _ _ _ _ _ zero2 zero2, load_whole _ _ _ zero2, load_whole _ _ _ zero3, harg1.read_unread, harg6.read_unread]
  iexists _; isplitr
  swap; · iexact HS1
  ipureintro
  refine (read_newest _ _ _ _ _ zero2).trans ?_
  rw [load_whole _ _ _ zero2, harg2.read_unread]

end Cert.KernelIdeal.Hand

end
-- ==== Proof.Rows.lean ====
module

public import proofs.«01_k».proof.Proof.Gen.KernelIdeal.Frame
public import proofs.«01_k».proof.Proof.Gen.KernelIdeal.Skeleton
public import Idealize.ShloMosaic.Lib.Pipeline.ValueKit
public import Idealize.ShloMosaic.Lib.Pipeline.ReadBack
public import Idealize.ShloMosaic.Lib.Pointwise

@[expose] public section

-- a rectangle of production extents is looked at one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The rows of an output block. -/

/-- A buffer written over by pieces that are blocks of one function, and that cover it, reads as that function. -/
theorem read_of_pieces {sp : Space} {s : Shape} {e : EltTy} (v : View sig .tc sp s e) (f : v.ty.Contents (Elt F))
    (L : List (View.Piece (Elt F) s e)) (G : s.Idx → Elt F e) (hc : ∀ y, ∃ p ∈ L, y ∈ p.1.set) (hp : View.PiecesOf G L) :
    v.read (Elt F) (v.writes (Elt F) f L) = G := by
  rw [View.read_writes_eq_canon v f L hc]
  funext y
  have := View.canon_append_of_piecesOf G [] L hp y (hc y)
  rwa [List.append_nil] at this

/-- An output block: the winsorized block times the reciprocal scales, less the shifts times them. A row of the block is a
    column of the two matrices `inv` and `si`. -/
def rowsOut (xw : FVec F S64x128x256 .f32) (inv si : FVec F S128x64 .f32) : FVec F S64x128x256 .f32 := fun y =>
  FloatOps.subf (FloatOps.mulf (xw y) (inv (ix2 (y 1) (y 0)))) (si (ix2 (y 1) (y 0)))

/-- What a point of the second phase leaves in the output block, from the block of `x`, the mean, the gate and the two weights. -/
def outBlock (x : Vec F S64x128x256 .f32) (mean gate : Vec F S128x256 .f32) (wsh wsc : Vec F S128x128 .f32) : Vec F S64x128x256 .f32 :=
  rowsOut (k0_pay6 x mean gate)
    (k0_pay13 (k0_pay11 x mean gate wsh wsc) (k0_pay12 x mean gate wsh wsc))
    (k0_pay14 (k0_pay10 x mean gate wsh) (k0_pay11 x mean gate wsh wsc) (k0_pay12 x mean gate wsh wsc))

/-- The block of one row, as the body's text computes it: row `n` of the winsorized block, columns `n` of the two matrices. -/
def rowPay (n : ℕ) (xw : FVec F S64x128x256 .f32) (inv si : FVec F S128x64 .f32) (h1 : S64x128x256.Slices ![n, 0, 0] S1x128x256) (h2 : S128x64.Slices ![0, n] S128x1) : FVec F S1x128x256 .f32 :=
  shapeCast S1x128x256 (subf (mulf (shapeCast S128x256 (extractStridedSlice S1x128x256 ![n, 0, 0] xw h1) shapeCasts_S1x128x256_S128x256)
      (broadcastTo S128x256 (extractStridedSlice S128x1 ![0, n] inv h2) broadcasts_S128x1_S128x256))
    (broadcastTo S128x256 (extractStridedSlice S128x1 ![0, n] si h2) broadcasts_S128x1_S128x256)) shapeCasts_S128x256_S1x128x256

/-- The block of row `n` is the output block's row `n`. -/
theorem rowPay_apply (n : ℕ) (xw : FVec F S64x128x256 .f32) (inv si : FVec F S128x64 .f32) (h1 : S64x128x256.Slices ![n, 0, 0] S1x128x256) (h2 : S128x64.Slices ![0, n] S128x1)
    (inb : ∀ a, (![n, 0, 0] : Fin 3 → ℕ) a + S1x128x256.size a ≤ S64x128x256.size a) (x : S1x128x256.Idx) :
    rowPay n xw inv si h1 h2 x = rowsOut xw inv si ((Rect.unit (s := S64x128x256) ![n, 0, 0] S1x128x256.size inb).emb x) := by
  have e : (Rect.unit (s := S64x128x256) ![n, 0, 0] S1x128x256.size inb).emb x
      = ix3 ⟨n, by have := inb 0; simp at this; omega⟩ (x 1) (x 2) := by
    funext a
    have h0 : (x 0).val < 1 := (x 0).isLt
    refine Fin.ext ?_
    match a with
    | ⟨0, _⟩ => show n + 1 * (x 0).val = n; omega
    | ⟨1, _⟩ => show 0 + 1 * (x 1).val = (x 1).val; omega
    | ⟨2, _⟩ => show 0 + 1 * (x 2).val = (x 2).val; omega
  rw [e]
  unfold rowPay rowsOut
  pointwise

/-- One more row stored: the list stays a list of blocks of the output block. -/
theorem pieces_row (n : ℕ) (xw : FVec F S64x128x256 .f32) (inv si : FVec F S128x64 .f32) (h1 : S64x128x256.Slices ![n, 0, 0] S1x128x256) (h2 : S128x64.Slices ![0, n] S128x1)
    (inb : ∀ a, (![n, 0, 0] : Fin 3 → ℕ) a + S1x128x256.size a ≤ S64x128x256.size a) (L : List (View.Piece (Elt F) S64x128x256 .f32))
    (h : View.PiecesOf (rowsOut xw inv si) L) :
    View.PiecesOf (rowsOut xw inv si) (⟨Rect.unit (s := S64x128x256) ![n, 0, 0] S1x128x256.size inb, rowPay n xw inv si h1 h2⟩ :: L) :=
  ⟨fun x => rowPay_apply n xw inv si h1 h2 inb x, h⟩

end Cert.KernelIdeal.Hand

end
-- ==== Proof.Emit.lean ====
module

public import proofs.«01_k».proof.Proof.Body
public import proofs.«01_k».proof.Proof.Rows

@[expose] public section

-- a rectangle of production extents is looked at one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body at one grid point of the emitting phase. -/

set_option maxHeartbeats 1600000 in
/-- Points from 32 on: the output block is computed from the mean and the gate, which stay as they are. -/
theorem run_emit (c : Dev nD) (i : grid0.Coords) (arg1 : Memref sig .tc .vmem S64x128x256 .f32) (harg1 : arg1.IsWhole) (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S64x128x256 .f32) (harg5 : arg5.IsWhole) (arg6 : Memref sig .tc .vmem S128x256 .f32) (harg6 : arg6.IsWhole) (arg7 : Memref sig .tc .vmem S128x256 .f32) (harg7 : arg7.IsWhole) (hc0 : ¬clears i) (hc1 : ¬adds i) (hc2 : ¬scales i) (hc3 : emits i)
    (x0 : Vec F S64x128x256 .f32) (x1 : Vec F S128x256 .f32) (x2 : Vec F S128x128 .f32) (x3 : Vec F S128x128 .f32) (d4 : Vec F S64x128x256 .f32) (mean gate : Vec F S128x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ owns (c : Thread nD τ) arg6 fullShare mean ∗ owns (c : Thread nD τ) arg7 fullShare gate
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlock x0 mean gate x2 x3) ∗ owns (c : Thread nD τ) arg6 fullShare mean ∗ owns (c : Thread nD τ) arg7 fullShare gate) -∗ K ⟨⟩))
      ⊢ wp frame (wpE (defs₀ (F := F)) Variants.none c none) E (cc0_dain_fused i arg1 harg1 arg2 harg2 arg3 harg3 arg4 harg4 arg5 harg5 arg6 harg6 arg7 harg7) K := by
  simp only [cc0_dain_fused_eq_skeleton]; unfold cc0_dain_fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg6.eq_unread hfs0; obtain rfl := harg7.eq_unread hfs1
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine read_of_pieces _ _ _ _ (View.cover_of_tiledL _ S1x128x256.size (by sl_kernel_rfl)) ?_
    unfold run_emit.sl.r_21 run_emit.sl.r_20 run_emit.sl.r_19 run_emit.sl.r_18 run_emit.sl.r_17 run_emit.sl.r_16 run_emit.sl.r_15 run_emit.sl.r_14 run_emit.sl.r_13 run_emit.sl.r_12 run_emit.sl.r_11 run_emit.sl.r_10 run_emit.sl.r_9 run_emit.sl.r_8 run_emit.sl.r_7 run_emit.sl.r_6
    unfold run_emit.sl.r_5 run_emit.sl.r_4 run_emit.sl.r_3 run_emit.sl.r_2 run_emit.sl.r_1 run_emit.sl.r
    rw [load_whole _ _ _ zero3, load_whole _ _ _ zero2, load_whole _ _ _ zero2, load_whole _ _ _ zero2, load_whole _ _ _ zero2, harg1.read_unread, harg6.read_unread, harg7.read_unread, harg3.read_unread, harg4.read_unread]
    unfold outBlock
    iterate 64 refine pieces_row _ _ _ _ _ _ _ _ ?_
    exact trivial
  isplitl [HS0]
  · iexists _; isplitr; · ipureintro; exact harg6.read_unread _
    iexact HS0
  iexists _; isplitr; · ipureintro; exact harg7.read_unread _
  iexact HS1

end Cert.KernelIdeal.Hand

end
-- ==== Proof.Launch.lean ====
module

public import proofs.«01_k».proof.Proof.Body
public import proofs.«01_k».proof.Proof.Emit
public import Idealize.ShloMosaic.Lib.Claim

@[expose] public section

-- a rectangle of production extents is looked at one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What each grid point leaves in the scratch buffers and in the output block, and the launch's run. -/

variable (m : (ℓ : Loc nD τ sig) → Buf (Elt F) ℓ) (ρ : Dev nD → PrngReg)

/-! ## Named contents -/

/-- The running sum after point `n` of the accumulating phase. -/
def sumAt (c : Dev nD) : ℕ → Vec F S128x256 .f32
  | 0 => k0_pay2 k0_pay1 (iblk m c 0 ⟨0, by decide⟩)
  | n + 1 => if h : n + 1 < cfg0.N then k0_pay2 (sumAt c n) (iblk m c 0 ⟨n + 1, h⟩) else sumAt c n

/-- The running sum after point 0. -/
theorem sumAt_zero (c : Dev nD) (t : Fin cfg0.N) (h : t.val = 0) : sumAt m c t.val = k0_pay2 k0_pay1 (iblk m c 0 t) := by
  obtain ⟨n, hn⟩ := t
  obtain rfl : n = 0 := h
  rfl

/-- The running sum after a later point. -/
theorem sumAt_pos (c : Dev nD) (t : Fin cfg0.N) (h : t.val ≠ 0) : sumAt m c t.val = k0_pay2 (sumAt m c (t.val - 1)) (iblk m c 0 t) := by
  obtain ⟨n, hn⟩ := t
  obtain _ | n := n
  · exact absurd rfl h
  · exact dif_pos hn

/-- The mean over the batch. -/
def meanOf (c : Dev nD) : Vec F S128x256 .f32 := k0_pay3 (sumAt m c 31)
/-- The gate. -/
def gateOf (c : Dev nD) : Vec F S128x256 .f32 := k0_pay4 (iblk m c 1 ⟨31, by decide⟩)

/-- The output block of a point of the second phase. -/
def outAt (c : Dev nD) (t : Fin cfg0.N) : Vec F S64x128x256 .f32 :=
  outBlock (iblk m c 0 t) (meanOf m c) (gateOf m c) (iblk m c 2 t) (iblk m c 3 t)

/-! ## The invariant and the proof data -/

/-- What holds of the scratch buffers before point `n`: nothing at the start; the running sum in the accumulating phase; the mean
    and the gate after it. -/
def PhiS (c : Dev nD) (n : ℕ) : sProp 𝕄 :=
  if n = 0 then Pipeline.ΦA spec0 c
  else if n ≤ 31 then iprop(iprop(owns (c : Thread nD τ) sumM fullShare (sumAt m c (n - 1)) ∗ (∃ d, owns (c : Thread nD τ) gateM fullShare d)) ∗ (∃ r, prngReg c r))
  else iprop(iprop(owns (c : Thread nD τ) sumM fullShare (meanOf m c) ∗ owns (c : Thread nD τ) gateM fullShare (gateOf m c)) ∗ (∃ r, prngReg c r))

/-- The invariant at the start. -/
theorem PhiS_zero (c : Dev nD) (n : ℕ) (h : n = 0) : PhiS m c n = Pipeline.ΦA spec0 c := if_pos h
/-- The invariant in the accumulating phase. -/
theorem PhiS_sum (c : Dev nD) (n : ℕ) (h : n ≠ 0) (h' : n ≤ 31) : PhiS m c n
    = iprop(iprop(owns (c : Thread nD τ) sumM fullShare (sumAt m c (n - 1)) ∗ (∃ d, owns (c : Thread nD τ) gateM fullShare d)) ∗ (∃ r, prngReg c r)) := by
  unfold PhiS; rw [if_neg h, if_pos h']
/-- The invariant after it. -/
theorem PhiS_mean (c : Dev nD) (n : ℕ) (h : 32 ≤ n) : PhiS m c n
    = iprop(iprop(owns (c : Thread nD τ) sumM fullShare (meanOf m c) ∗ owns (c : Thread nD τ) gateM fullShare (gateOf m c)) ∗ (∃ r, prngReg c r)) := by
  unfold PhiS; rw [if_neg (by omega), if_neg (by omega)]

/-- The proof data of the launch: the arrays on entry, what each point leaves in each window, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

/-- The arrays are the contents on entry. -/
theorem A_eq (c : Dev nD) (w : Fin cfg0.W) : (dats m 0 c).A w = V m c (Pipeline.arrRef spec0 w) := by
  dsimp only [dats]

/-- The invariant before point `t`. -/
theorem Phi_castSucc (c : Dev nD) (t : Fin cfg0.N) : (dats m 0 c).Φ t.castSucc = PhiS m c t.val := by
  dsimp only [dats]; rfl

/-- Window 0 is left with its block. -/
theorem after_0 (c : Dev nD) (t : Fin cfg0.N) : (dats m 0 c).after 0 t = iblk m c 0 t := by dsimp only [dats]
/-- Window 1 is left with its block. -/
theorem after_1 (c : Dev nD) (t : Fin cfg0.N) : (dats m 0 c).after 1 t = iblk m c 1 t := by dsimp only [dats]
/-- Window 2 is left with its block. -/
theorem after_2 (c : Dev nD) (t : Fin cfg0.N) : (dats m 0 c).after 2 t = iblk m c 2 t := by dsimp only [dats]
/-- Window 3 is left with its block. -/
theorem after_3 (c : Dev nD) (t : Fin cfg0.N) : (dats m 0 c).after 3 t = iblk m c 3 t := by dsimp only [dats]
/-- The output window is left with the output block. -/
theorem after_4 (c : Dev nD) (t : Fin cfg0.N) : (dats m 0 c).after 4 t = outAt m c t := by dsimp only [dats]

/-- Window 0 holds its block before the body runs. -/
theorem before_0 (c : Dev nD) (t : Fin cfg0.N) (d) : (dats m 0 c).before 0 t d = iblk m c 0 t :=
  before0_0_of m (dats m 0 c) (A_eq m c 0) (after_0 m c) t d
/-- Window 1 holds its block before the body runs. -/
theorem before_1 (c : Dev nD) (t : Fin cfg0.N) (d) : (dats m 0 c).before 1 t d = iblk m c 1 t :=
  before0_1_of m (dats m 0 c) (A_eq m c 1) (after_1 m c) t d
/-- Window 2 holds its block before the body runs. -/
theorem before_2 (c : Dev nD) (t : Fin cfg0.N) (d) : (dats m 0 c).before 2 t d = iblk m c 2 t :=
  before0_2_of m (dats m 0 c) (A_eq m c 2) (after_2 m c) t d
/-- Window 3 holds its block before the body runs. -/
theorem before_3 (c : Dev nD) (t : Fin cfg0.N) (d) : (dats m 0 c).before 3 t d = iblk m c 3 t :=
  before0_3_of m (dats m 0 c) (A_eq m c 3) (after_3 m c) t d

/-! ## What the body returns in each window -/

/-- An input's block is returned as it was handed over. -/
theorem leaves_in (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- In the accumulating phase the output's buffer is not stored into. -/
theorem idle_out : ∀ t : Fin cfg0.N, t.val < 32 → cfg0.idle 4 (grid0.coords t) = true :=
  (by decide +kernel : ∀ t : Fin grid0.N, t.val < 32 → idle0 4 (grid0.coords t) = true)
/-- In the second phase it is. -/
theorem live_out : ∀ t : Fin cfg0.N, 32 ≤ t.val → cfg0.idle 4 (grid0.coords t) = false :=
  (by decide +kernel : ∀ t : Fin grid0.N, 32 ≤ t.val → idle0 4 (grid0.coords t) = false)
/-- In the accumulating phase no output block is written back. -/
theorem flush_out : ∀ t : Fin cfg0.N, t.val < 32 → (cfg0.win 4).flush t = false := by
  decide +kernel

/-! ## The body obligation -/

/-- The buffer each window is on at point `t`. -/
abbrev buf_0 (t : Fin cfg0.N) : Memref sig .tc .vmem S64x128x256 .f32 := win0_0.stage (cfg0.slots t 0)
abbrev buf_1 (t : Fin cfg0.N) : Memref sig .tc .vmem S128x256 .f32 := win0_1.stage (cfg0.slots t 1)
abbrev buf_2 (t : Fin cfg0.N) : Memref sig .tc .vmem S128x128 .f32 := win0_2.stage (cfg0.slots t 2)
abbrev buf_3 (t : Fin cfg0.N) : Memref sig .tc .vmem S128x128 .f32 := win0_3.stage (cfg0.slots t 3)
abbrev buf_4 (t : Fin cfg0.N) : Memref sig .tc .vmem S64x128x256 .f32 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf_0 t) fullShare ((dats m 0 c).before 0 t d))
    ∗ (∃ d, owns (c : Thread nD τ) (buf_1 t) fullShare ((dats m 0 c).before 1 t d))
    ∗ (∃ d, owns (c : Thread nD τ) (buf_2 t) fullShare ((dats m 0 c).before 2 t d))
    ∗ (∃ d, owns (c : Thread nD τ) (buf_3 t) fullShare ((dats m 0 c).before 3 t d))
    ∗ (∃ d, owns (c : Thread nD τ) (buf_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The body at any point, by the four cases of the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) from rfl, Phi_castSucc]
  rw [leaves_in m c 0 t rfl, leaves_in m c 1 t rfl, leaves_in m c 2 t rfl, leaves_in m c 3 t rfl, after_0, after_1, after_2, after_3]
  by_cases h3 : 32 ≤ t.val
  · have h0 : ¬t.val = 0 := by omega
    have h1 : ¬t.val < 32 := by omega
    have h2 : ¬t.val = 31 := by omega
    rw [leaves_in m c 4 t (live_out t h3), after_4, PhiS_mean m c t.val h3, PhiS_mean m c (t.val + 1) (by omega)]
    unfold outAt
    iintro ⟨⟨⟨HS0, HS1⟩, Hg⟩, Ho, ⟨%d0, H0⟩, ⟨%d1, H1⟩, ⟨%d2, H2⟩, ⟨%d3, H3⟩, ⟨%d4, H4⟩⟩
    iapply (run_emit c (grid0.coords t) _ _ _ _ _ _ _ _ _ _ _ _ _ _ (fun h => h0 ((clears_iff t).mp h)) (fun h => h1 ((adds_iff t).mp h)) (fun h => h2 ((scales_iff t).mp h)) ((emits_iff t).mpr h3) (iblk m c 0 t) (iblk m c 1 t) (iblk m c 2 t) (iblk m c 3 t) _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4
  · have h1 : t.val < 32 := by omega
    rw [(dats m 0 c).leavesExact_idle 4 t (idle_out t h1) (flush_out t h1)]
    by_cases h0 : t.val = 0
    · have h2 : ¬t.val = 31 := by omega
      rw [PhiS_zero m c t.val h0, PhiA_eq, PhiS_sum m c (t.val + 1) (by omega) (by omega), Nat.add_sub_cancel, sumAt_zero m c t h0]
      iintro ⟨⟨⟨HS0, HS1⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ ((clears_iff t).mpr h0) ((adds_iff t).mpr h1) (fun h => h2 ((scales_iff t).mp h)) (fun h => h3 ((emits_iff t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4
    · rw [PhiS_sum m c t.val h0 (by omega)]
      by_cases h2 : t.val = 31
      · have e31 : t = ⟨31, by decide⟩ := Fin.ext h2
        rw [PhiS_mean m c (t.val + 1) (by omega), show meanOf m c = k0_pay3 (k0_pay2 (sumAt m c (t.val - 1)) (iblk m c 0 t)) from by
          rw [← sumAt_pos m c t h0, h2]; rfl, show gateOf m c = k0_pay4 (iblk m c 1 t) from by rw [e31]; rfl]
        iintro ⟨⟨⟨HS0, HS1⟩, Hg⟩, Ho, ⟨%d0, H0⟩, ⟨%d1, H1⟩, ⟨%d2, H2⟩, ⟨%d3, H3⟩, ⟨%d4, H4⟩⟩
        iapply (run_scale c (grid0.coords t) _ _ _ _ _ _ _ _ _ _ _ _ _ _ (fun h => h0 ((clears_iff t).mp h)) ((adds_iff t).mpr h1) ((scales_iff t).mpr h2) (fun h => h3 ((emits_iff t).mp h)) (iblk m c 0 t) (iblk m c 1 t) (iblk m c 2 t) (iblk m c 3 t) _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        iexists _; iexact H4
      · rw [PhiS_sum m c (t.val + 1) (by omega) (by omega), Nat.add_sub_cancel, sumAt_pos m c t h0]
        iintro ⟨⟨⟨HS0, HS1⟩, Hg⟩, Ho, ⟨%d0, H0⟩, ⟨%d1, H1⟩, ⟨%d2, H2⟩, ⟨%d3, H3⟩, ⟨%d4, H4⟩⟩
        iapply (run_add c (grid0.coords t) _ _ _ _ _ _ _ _ _ _ _ _ _ _ (fun h => h0 ((clears_iff t).mp h)) ((adds_iff t).mpr h1) (fun h => h2 ((scales_iff t).mp h)) (fun h => h3 ((emits_iff t).mp h)) (iblk m c 0 t) (iblk m c 1 t) (iblk m c 2 t) (iblk m c 3 t) _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        iexists _; iexact H4

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant before the first point asks for nothing. -/
theorem hin (c : Dev nD) : Pipeline.ΦA spec0 c ⊢ (dats m 0 c).Φ 0 := by
  rw [show (dats m 0 c).Φ 0 = PhiS m c 0 from rfl, PhiS_zero m c 0 rfl]

/-- After the last point the scratch contents are forgotten. -/
theorem hout (c : Dev nD) : (dats m 0 c).Φ (Fin.last cfg0.N) ⊢ Pipeline.ΦA spec0 c := by
  rw [show (dats m 0 c).Φ (Fin.last cfg0.N) = PhiS m c 64 from rfl, PhiS_mean m c 64 (by omega), PhiA_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- The launch runs; every window's array ends at what the points leave in it, every other buffer as it was, every counter zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
    (Q' := fun r => Pipeline.FramePost cfgs (dats m) 0 (V m) r ∧ r.2.sem = fun _ => 0)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The program ends with its arguments as they were and every counter zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Reals.lean ====
module

public import Idealize.ShloMosaic.Lib.Pointwise
public import Idealize.ShloMosaic.PureOps

@[expose] public section

noncomputable section

namespace Cert.Reals

open Idealize.ShloMosaic

/-! Facts of extended-real arithmetic that the equation of the two programs rests on. -/

/-! ## Literals -/

/-- The word of 2048. -/
theorem lit_batch : Ideal.ofBits .f32 1157627904#32 = ((2048 : ℝ) : EReal) := by
  simp [Ideal.ofBits, Ideal.ieee, -EReal.coe_mul]; norm_num
/-- The word of 256. -/
theorem lit_time : Ideal.ofBits .f32 1132462080#32 = ((256 : ℝ) : EReal) := by
  simp [Ideal.ofBits, Ideal.ieee, -EReal.coe_mul]; norm_num
/-- The word of 1/2048. -/
theorem lit_inv_batch : Ideal.ofBits .f32 973078528#32 = ((1 / 2048 : ℝ) : EReal) := by
  simp [Ideal.ofBits, Ideal.ieee, -EReal.coe_mul]; norm_num
/-- The word of 1/256. -/
theorem lit_inv_time : Ideal.ofBits .f32 998244352#32 = ((1 / 256 : ℝ) : EReal) := by
  simp [Ideal.ofBits, Ideal.ieee, -EReal.coe_mul]; norm_num
/-- The word of 2. -/
theorem lit_two : Ideal.ofBits .f32 1073741824#32 = ((2 : ℝ) : EReal) := by
  simp [Ideal.ofBits, Ideal.ieee, -EReal.coe_mul]; norm_num
/-- The word of the small constant. -/
theorem lit_eps : Ideal.ofBits .f32 841731191#32 = ((11258999 / 2 ^ 50 : ℝ) : EReal) := by
  simp [Ideal.ofBits, Ideal.ieee, -EReal.coe_mul]; norm_num

/-! ## Sums -/

/-- A finite sum of reals, as an extended real. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The two halves of 256 terms added pairwise are all the terms. -/
theorem sum_halves (f : Fin 256 → EReal) :
    ∑ k : Fin 128, (f ⟨k.val, by omega⟩ + f ⟨128 + k.val, by omega⟩) = ∑ t, f t := by
  rw [Finset.sum_add_distrib]
  exact (Fin.sum_univ_add (a := 128) (b := 128) f).symm

/-- 256 times infinity. -/
theorem sum_top : ∑ _t : Fin 256, (⊤ : EReal) = ⊤ := by
  rw [Finset.sum_const, Finset.card_univ, Fintype.card_fin, EReal.nsmul_eq_mul]
  exact EReal.coe_mul_top_of_pos (x := (256 : ℝ)) (by norm_num)

/-! ## The gate -/

/-- The logistic of any extended real is a real. -/
theorem logistic_real (a : EReal) : ∃ r : ℝ, Ideal.div 1 (1 + Ideal.exp (-a)) = (r : EReal) := by
  induction a using EReal.rec with
  | bot =>
    refine ⟨0, ?_⟩
    show Ideal.div 1 (1 + ⊤) = _
    have : (1 : EReal) + ⊤ = ⊤ := EReal.coe_add_top 1
    rw [this, Ideal.div, if_neg (by simp)]
    simp
  | top =>
    refine ⟨1, ?_⟩
    show Ideal.div 1 (1 + 0) = _
    rw [add_zero, show (1 : EReal) = ((1 : ℝ) : EReal) from rfl, Ideal.div_coe one_ne_zero]
    norm_num
  | coe r =>
    refine ⟨1 / (1 + Real.exp (-r)), ?_⟩
    show Ideal.div ((1 : ℝ) : EReal) (((1 : ℝ) : EReal) + ((Real.exp (-r) : ℝ) : EReal)) = _
    have h : 1 + Real.exp (-r) ≠ 0 := by positivity
    rw [← EReal.coe_add, Ideal.div_coe h, ← EReal.coe_mul, one_mul]

/-- The winsorized value: the reference's convex combination is the kernel's correction of `x`, at `beta = 0`. -/
theorem wins_eq (x mu g : ℝ) :
    ((1 : EReal) - g) * x + g * (Ideal.exp 0 * Ideal.tanh ((x - mu) * Ideal.exp (-0)) + mu)
      = ((x + g * (Real.tanh (x - mu) - (x - mu)) : ℝ) : EReal) := by
  have e0 : Ideal.exp 0 = ((1 : ℝ) : EReal) := by
    show ((Real.exp 0 : ℝ) : EReal) = _
    rw [Real.exp_zero]
  have et : Ideal.tanh ((x - mu : ℝ) : EReal) = ((Real.tanh (x - mu) : ℝ) : EReal) := rfl
  rw [neg_zero, e0, ← EReal.coe_sub, ← EReal.coe_mul, mul_one, et, show (1 : EReal) = ((1 : ℝ) : EReal) from rfl]
  norm_cast
  ring

/-! ## The variance -/

/-- The mean of squares less `(2·mean − σ)·σ` is the mean of the squared differences from `σ`, at any extended real `σ`. -/
theorem var_eq (f : Fin 256 → ℝ) (σ : EReal) :
    (∑ t, (f t : EReal) * f t) * ((1 / 256 : ℝ) : EReal) - (((2 : ℝ) : EReal) * (((∑ t, f t) / 256 : ℝ) : EReal) - σ) * σ
      = Ideal.div (∑ t, ((f t : EReal) - σ) * (f t - σ)) ((256 : ℝ) : EReal) := by
  have hs : ∑ t, (f t : EReal) * f t = ((∑ t, f t * f t : ℝ) : EReal) := by
    rw [coe_sum]; exact Finset.sum_congr rfl fun t _ => (EReal.coe_mul _ _).symm
  rw [hs, Ideal.div_coe (by norm_num), ← EReal.coe_mul (∑ t, f t * f t), ← EReal.coe_mul 2]
  induction σ using EReal.rec with
  | bot =>
    have e1 : ∀ t, ((f t : EReal) - ⊥) * (f t - ⊥) = ⊤ := fun t => by simp
    rw [Finset.sum_congr rfl fun t _ => e1 t, sum_top, EReal.top_mul_coe_of_pos (by norm_num), EReal.coe_sub_bot, EReal.top_mul_bot, EReal.coe_sub_bot]
  | top =>
    have e1 : ∀ t, ((f t : EReal) - ⊤) * (f t - ⊤) = ⊤ := fun t => by simp
    rw [Finset.sum_congr rfl fun t _ => e1 t, sum_top, EReal.top_mul_coe_of_pos (by norm_num), EReal.sub_top, EReal.bot_mul_top, EReal.coe_sub_bot]
  | coe s =>
    have e1 : ∀ t, ((f t : EReal) - s) * (f t - s) = (((f t - s) * (f t - s) : ℝ) : EReal) := fun t => by norm_cast
    rw [Finset.sum_congr rfl fun t _ => e1 t, ← coe_sum]
    norm_cast
    have e2 : ∑ t, (f t - s) * (f t - s) = ∑ t, f t * f t - 2 * s * ∑ t, f t + 256 * (s * s) := by
      rw [Finset.mul_sum, ← Finset.sum_sub_distrib,
        show (256 : ℝ) * (s * s) = ∑ _t : Fin 256, s * s from by rw [Finset.sum_const, Finset.card_univ, Fintype.card_fin, nsmul_eq_mul]; norm_num,
        ← Finset.sum_add_distrib]
      exact Finset.sum_congr rfl fun t _ => by ring
    rw [e2]
    ring

/-! ## The scaling -/

/-- The scale that is divided by is positive. -/
theorem scale_pos (a : EReal) : 0 < (if a ≤ Ideal.ofBits .f32 841731191#32 then (1 : EReal) else a) := by
  have he : (0 : EReal) < Ideal.ofBits .f32 841731191#32 := by
    rw [lit_eps]; exact EReal.coe_pos.mpr (by norm_num)
  split
  · exact zero_lt_one
  · exact he.trans (not_le.mp ‹_›)

/-- Multiplying the value and the shift by the reciprocal of a positive scale is dividing the difference by the scale. -/
theorem tail_eq (x : ℝ) (σ s : EReal) (hs : 0 < s) :
    (x : EReal) * Ideal.div 1 s - σ * Ideal.div 1 s = Ideal.div (x - σ) s := by
  induction s using EReal.rec with
  | bot => exact absurd hs (by simp)
  | top =>
    have e : ∀ y : EReal, Ideal.div y ⊤ = 0 := fun y => by rw [Ideal.div, if_neg (by simp)]; simp
    rw [e, e]; simp
  | coe s =>
    have h0 : 0 < s := EReal.coe_pos.mp hs
    have hr : 0 < 1 / s := by positivity
    rw [Ideal.div_coe h0.ne', Ideal.div_coe h0.ne', one_mul, ← EReal.coe_mul]
    induction σ using EReal.rec with
    | bot => rw [EReal.bot_mul_coe_of_pos hr, EReal.coe_sub_bot, EReal.coe_sub_bot, EReal.top_mul_coe_of_pos hr]
    | top => rw [EReal.top_mul_coe_of_pos hr, EReal.sub_top, EReal.sub_top, EReal.bot_mul_coe_of_pos hr]
    | coe r => norm_cast; ring

/-! ## The power transform at `lambd = 1` -/

/-- The reference's last step. -/
def yeoJohnson (y l : EReal) : EReal :=
  if 0 ≤ y then
    if Ideal.ofBits .f32 841731191#32 < max l (-l) then
      Ideal.div (Ideal.pow ((if 0 ≤ y then y else 0) + 1) l - 1) (if Ideal.ofBits .f32 841731191#32 < max l (-l) then l else 1)
    else Ideal.log1p (if 0 ≤ y then y else 0)
  else
    if Ideal.ofBits .f32 841731191#32 < max (l - Ideal.ofBits .f32 1073741824#32) (-(l - Ideal.ofBits .f32 1073741824#32)) then
      Ideal.div (Ideal.pow (1 - if 0 ≤ y then 0 else y) (Ideal.ofBits .f32 1073741824#32 - l) - 1)
        (if Ideal.ofBits .f32 841731191#32 < max (l - Ideal.ofBits .f32 1073741824#32) (-(l - Ideal.ofBits .f32 1073741824#32)) then
          l - Ideal.ofBits .f32 1073741824#32 else 1)
    else -Ideal.log1p (-if 0 ≤ y then 0 else y)

/-- The first power of a real or of infinity is itself. -/
theorem pow_one_coe (r : ℝ) : Ideal.pow (r : EReal) ((1 : ℝ) : EReal) = r := by
  show ((Real.rpow r 1 : ℝ) : EReal) = r
  rw [show Real.rpow r 1 = r from Real.rpow_one r]
/-- An infinite power one. -/
theorem pow_one_top : Ideal.pow ⊤ ((1 : ℝ) : EReal) = ⊤ := by
  show (if (0 : EReal) < ((1 : ℝ) : EReal) then (⊤ : EReal) else _) = ⊤
  rw [if_pos (EReal.coe_pos.mpr one_pos)]

/-- At `lambd = 1` the transform is the identity. -/
theorem yeoJohnson_one (y : EReal) : yeoJohnson y 1 = y := by
  have e1 : (1 : EReal) = ((1 : ℝ) : EReal) := rfl
  have c1 : Ideal.ofBits .f32 841731191#32 < max (1 : EReal) (-1) := by
    rw [lit_eps]
    exact lt_max_of_lt_left (by rw [e1]; exact EReal.coe_lt_coe_iff.mpr (by norm_num))
  have d2 : (1 : EReal) - Ideal.ofBits .f32 1073741824#32 = ((-1 : ℝ) : EReal) := by
    rw [lit_two, e1, ← EReal.coe_sub]; norm_num
  have d3 : Ideal.ofBits .f32 1073741824#32 - (1 : EReal) = ((1 : ℝ) : EReal) := by
    rw [lit_two, e1, ← EReal.coe_sub]; norm_num
  have c2 : Ideal.ofBits .f32 841731191#32 < max ((-1 : ℝ) : EReal) (-((-1 : ℝ) : EReal)) := by
    rw [lit_eps]
    exact lt_max_of_lt_right (by rw [← EReal.coe_neg]; exact EReal.coe_lt_coe_iff.mpr (by norm_num))
  unfold yeoJohnson
  rw [d2, d3, if_pos c1, if_pos c1, if_pos c2, if_pos c2]
  by_cases h : 0 ≤ y
  · rw [if_pos h, if_pos h]
    induction y using EReal.rec with
    | bot => exact absurd h (by simp)
    | top =>
      have : (⊤ : EReal) + 1 = ⊤ := EReal.top_add_coe 1
      rw [this, e1, pow_one_top, EReal.top_sub_coe, Ideal.div_coe one_ne_zero]
      exact EReal.top_mul_coe_of_pos (by norm_num)
    | coe r =>
      rw [e1, ← EReal.coe_add, pow_one_coe, ← EReal.coe_sub, Ideal.div_coe one_ne_zero, ← EReal.coe_mul]
      norm_num
  · rw [if_neg h, if_neg h]
    induction y using EReal.rec with
    | bot =>
      rw [e1, EReal.coe_sub_bot, pow_one_top, EReal.top_sub_coe, Ideal.div_coe (by norm_num)]
      exact EReal.top_mul_coe_of_neg (by norm_num)
    | top => exact absurd le_top h
    | coe r =>
      rw [e1, ← EReal.coe_sub, pow_one_coe, ← EReal.coe_sub, Ideal.div_coe (by norm_num), ← EReal.coe_mul]
      norm_num

end Cert.Reals

end
-- ==== Proof.Spec.lean ====
module

public import proofs.«01_k».proof.Proof.Reals

@[expose] public section

noncomputable section

namespace Cert.Spec

open Idealize.ShloMosaic

/-! What both programs compute, index by index, from a finite `x` and arbitrary `alpha`, `W_shift`, `W_scale`. -/

variable (x : Fin 2048 → Fin 128 → Fin 256 → ℝ) (al : Fin 128 → Fin 256 → EReal) (w1 w2 : Fin 128 → Fin 128 → EReal)

/-- The mean over the batch. -/
def mu (d : Fin 128) (t : Fin 256) : ℝ := (∑ n, x n d t) / 2048
/-- The gate, a real whatever `alpha` is. -/
def gate (d : Fin 128) (t : Fin 256) : ℝ := (Ideal.div 1 (1 + Ideal.exp (-al d t))).toReal
/-- The winsorized value. -/
def wins (n : Fin 2048) (d : Fin 128) (t : Fin 256) : ℝ :=
  x n d t + gate al d t * (Real.tanh (x n d t - mu x d t) - (x n d t - mu x d t))
/-- Its mean over time. -/
def avg (n : Fin 2048) (d : Fin 128) : ℝ := (∑ t, wins x al n d t) / 256
/-- The shift. -/
def shift (n : Fin 2048) (d : Fin 128) : EReal := ∑ k, w1 d k * (avg x al n k : EReal)
/-- The root mean square of the shifted values. -/
def std (n : Fin 2048) (d : Fin 128) : EReal :=
  Ideal.sqrt (Ideal.div (∑ t, ((wins x al n d t : EReal) - shift x al w1 n d) * (wins x al n d t - shift x al w1 n d)) ((256 : ℝ) : EReal)
    + Ideal.ofBits .f32 841731191#32)
/-- The scale before it is kept off zero. -/
def scale (n : Fin 2048) (d : Fin 128) : EReal := ∑ k, w2 d k * std x al w1 n k
/-- The result. -/
def out (n : Fin 2048) (d : Fin 128) (t : Fin 256) : EReal :=
  Ideal.div ((wins x al n d t : EReal) - shift x al w1 n d)
    (if scale x al w1 w2 n d ≤ Ideal.ofBits .f32 841731191#32 then 1 else scale x al w1 w2 n d)

/-- The gate as an extended real. -/
theorem gate_coe (d : Fin 128) (t : Fin 256) : (gate al d t : EReal) = Ideal.div 1 (1 + Ideal.exp (-al d t)) := by
  obtain ⟨r, hr⟩ := Reals.logistic_real (al d t)
  unfold gate
  rw [hr, EReal.toReal_coe]

end Cert.Spec

end
-- ==== Proof.Pay.lean ====
module

public import proofs.«01_k».proof.Proof.Rows
public import proofs.«01_k».proof.Proof.Spec

@[expose] public section

set_option maxRecDepth 16384

noncomputable section

namespace Cert.KernelIdeal.Hand

open Cert.KernelIdeal Cert.KernelIdeal.Gen
open Idealize.ShloMosaic
open Cert.Spec

/-! What a point of the second phase computes, read index by index, when its inputs are the given ones. -/

variable (X : Vec Ideal S64x128x256 .f32) (s g : Vec Ideal S128x256 .f32) (w v : Vec Ideal S128x128 .f32)
variable (x : Fin 2048 → Fin 128 → Fin 256 → ℝ) (al : Fin 128 → Fin 256 → EReal) (w1 w2 : Fin 128 → Fin 128 → EReal) (n : Fin 64 → Fin 2048)

/-- The block holds rows `n r` of `x`, the scratch the mean and the gate, the other two blocks the weights. -/
structure Reads : Prop where
  x_eq : ∀ r d t, (X (ix3 r d t) : EReal) = ((x (n r) d t : ℝ) : EReal)
  mean_eq : ∀ d t, (s (ix2 d t) : EReal) = ((mu x d t : ℝ) : EReal)
  gate_eq : ∀ d t, (g (ix2 d t) : EReal) = ((gate al d t : ℝ) : EReal)
  shift_eq : ∀ d k, (w (ix2 d k) : EReal) = w1 d k
  scale_eq : ∀ d k, (v (ix2 d k) : EReal) = w2 d k

variable {X s g w v x al w1 w2 n}

/-- The winsorized block. -/
theorem pay6_eq (h : Reads X s g w v x al w1 w2 n) (r : Fin 64) (d : Fin 128) (t : Fin 256) :
    (k0_pay6 (F := Ideal) X s g (ix3 r d t) : EReal) = ((wins x al (n r) d t : ℝ) : EReal) := by
  unfold k0_pay6
  pointwise
  rw [h.x_eq, h.mean_eq, h.gate_eq, ← EReal.coe_sub, Ideal.tanh_coe, ← EReal.coe_sub, ← EReal.coe_mul, ← EReal.coe_add]
  rfl

/-- Its mean over time. -/
theorem pay9_eq (h : Reads X s g w v x al w1 w2 n) (r : Fin 64) (d : Fin 128) :
    (k0_pay9 (F := Ideal) X s g (ix2 d r) : EReal) = ((avg x al (n r) d : ℝ) : EReal) := by
  unfold k0_pay9 k0_pay7 k0_pay8
  pointwise
  simp only [pay6_eq h]
  rw [Reals.sum_halves (fun t => ((wins x al (n r) d t : ℝ) : EReal)), ← Reals.coe_sum, Reals.lit_inv_time, ← EReal.coe_mul]
  unfold avg
  congr 1
  ring

/-- The shift. -/
theorem pay10_eq (h : Reads X s g w v x al w1 w2 n) (r : Fin 64) (d : Fin 128) :
    (k0_pay10 (F := Ideal) X s g w (ix2 d r) : EReal) = shift x al w1 (n r) d := by
  unfold k0_pay10
  pointwise
  simp only [pay9_eq h, h.shift_eq]
  rfl

/-- The scale. -/
theorem pay11_eq (h : Reads X s g w v x al w1 w2 n) (r : Fin 64) (d : Fin 128) :
    (k0_pay11 (F := Ideal) X s g w v (ix2 d r) : EReal) = scale x al w1 w2 (n r) d := by
  unfold k0_pay11 k0_pay7 k0_pay8
  pointwise
  simp only [pay6_eq h, pay9_eq h, pay10_eq h, h.scale_eq]
  unfold scale std
  refine Finset.sum_congr (M := EReal) rfl fun k _ => ?_
  rw [Reals.sum_halves (fun t => ((wins x al (n r) k t : ℝ) : EReal) * ((wins x al (n r) k t : ℝ) : EReal)), Reals.lit_inv_time, Reals.lit_two]
  rw [← Reals.var_eq]
  rfl

/-- The output block. -/
theorem outBlock_eq (h : Reads X s g w v x al w1 w2 n) (r : Fin 64) (d : Fin 128) (t : Fin 256) :
    (outBlock (F := Ideal) X s g w v (ix3 r d t) : EReal) = out x al w1 w2 (n r) d t := by
  have hs := Reals.scale_pos (scale x al w1 w2 (n r) d)
  unfold outBlock rowsOut k0_pay14 k0_pay13 k0_pay12
  pointwise [id]
  rw [pay6_eq h, pay10_eq h, pay11_eq h]
  exact Reals.tail_eq _ _ _ hs

end Cert.KernelIdeal.Hand

end
-- ==== Proof.KernelValue.lean ====
module

public import proofs.«01_k».proof.Proof.Launch
public import proofs.«01_k».proof.Proof.Pay

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec

/-! The kernel's result, read index by index. -/

variable (m : (ℓ : Loc nD τ sig) → Buf (Elt Ideal) ℓ) (c : Dev nD)
variable (x : Fin 2048 → Fin 128 → Fin 256 → ℝ) (al : Fin 128 → Fin 256 → EReal) (w1 w2 : Fin 128 → Fin 128 → EReal)

/-- The kernel's arguments are the given ones. -/
structure Args : Prop where
  x_eq : ∀ n d t, (m ((c : Thread nD τ).loc main_arg0) (ix3 n d t) : EReal) = ((x n d t : ℝ) : EReal)
  alpha_eq : ∀ d t, (m ((c : Thread nD τ).loc main_arg1) (ix3 0 d t) : EReal) = al d t
  shift_eq : ∀ d k, (m ((c : Thread nD τ).loc main_arg4) (ix2 d k) : EReal) = w1 d k
  scale_eq : ∀ d k, (m ((c : Thread nD τ).loc main_arg5) (ix2 d k) : EReal) = w2 d k

/-! ## Where the blocks lie -/

/-- Every window's block at every point: `x` backwards and then forwards, the output forwards in the second phase. -/
theorem idx : ∀ t : Fin cfg0.N, win0_0.index t = ![if t.val < 32 then 31 - t.val else t.val - 32, 0, 0]
    ∧ win0_1.index t = ![0, 0] ∧ win0_2.index t = ![0, 0] ∧ win0_3.index t = ![0, 0] ∧ win0_4.index t = ![t.val - 32, 0, 0] :=
  (by decide +kernel : ∀ t : Fin grid0.N, _)

/-- The batch row at row `r` of block `b`. -/
def rowOf (b : ℕ) (h : b < 32) (r : Fin 64) : Fin 2048 := ⟨64 * b + r.val, by omega⟩

variable {m c x al w1 w2}

/-- In the accumulating phase the block of `x` comes backwards. -/
theorem block_x_first (h : Args m c x al w1 w2) (t : Fin cfg0.N) (ht : t.val < 32) (r : Fin 64) (d : Fin 128) (s : Fin 256) :
    (iblk m c 0 t (ix3 r d s) : EReal) = ((x (rowOf (31 - t.val) (by omega) r) d s : ℝ) : EReal) := by
  rw [← h.x_eq]
  have e := idx t
  rw [if_pos ht] at e
  unfold rowOf
  blk_ext [iblk, V_main_arg0, e]

/-- In the second phase it comes forwards. -/
theorem block_x_second (h : Args m c x al w1 w2) (t : Fin cfg0.N) (ht : 32 ≤ t.val) (hb : t.val - 32 < 32) (r : Fin 64) (d : Fin 128) (s : Fin 256) :
    (iblk m c 0 t (ix3 r d s) : EReal) = ((x (rowOf (t.val - 32) hb r) d s : ℝ) : EReal) := by
  rw [← h.x_eq]
  have e := idx t
  rw [if_neg (by omega)] at e
  unfold rowOf
  blk_ext [iblk, V_main_arg0, e]

/-- The second window is `alpha` at every point. -/
theorem block_alpha (h : Args m c x al w1 w2) (t : Fin cfg0.N) (d : Fin 128) (s : Fin 256) :
    (iblk m c 1 t (ix2 d s) : EReal) = al d s := by
  rw [← h.alpha_eq]
  have e := idx t
  blk_point [iblk, V, e]

/-- The third is `W_shift`. -/
theorem block_shift (h : Args m c x al w1 w2) (t : Fin cfg0.N) (d : Fin 128) (k : Fin 128) :
    (iblk m c 2 t (ix2 d k) : EReal) = w1 d k := by
  rw [← h.shift_eq]
  have e := idx t
  blk_ext [iblk, V_main_arg4, e]

/-- The fourth is `W_scale`. -/
theorem block_scale (h : Args m c x al w1 w2) (t : Fin cfg0.N) (d : Fin 128) (k : Fin 128) :
    (iblk m c 3 t (ix2 d k) : EReal) = w2 d k := by
  rw [← h.scale_eq]
  have e := idx t
  blk_ext [iblk, V_main_arg5, e]

/-! ## The batch sum -/

/-- One step of the running sum. -/
theorem pay2_eq (s : Vec Ideal S128x256 .f32) (b : Vec Ideal S64x128x256 .f32) (d : Fin 128) (t : Fin 256) :
    (k0_pay2 (F := Ideal) s b (ix2 d t) : EReal) = (s (ix2 d t) : EReal) + ∑ r : Fin 64, (b (ix3 r d t) : EReal) := by
  unfold k0_pay2
  pointwise

/-- The running sum starts at zero. -/
theorem pay1_eq (d : Fin 128) (t : Fin 256) : (k0_pay1 (F := Ideal) (ix2 d t) : EReal) = ((0 : ℝ) : EReal) := by
  unfold k0_pay1
  pointwise [id]
  rfl

/-- The sum of block `b`'s rows. -/
def blockSum (x : Fin 2048 → Fin 128 → Fin 256 → ℝ) (d : Fin 128) (t : Fin 256) (b : ℕ) : ℝ :=
  if h : b < 32 then ∑ r, x (rowOf b h r) d t else 0

/-- After point `n` the running sum is the sum of the blocks `31 - n, …, 31`. -/
theorem sumAt_eq (h : Args m c x al w1 w2) (d : Fin 128) (t : Fin 256) : ∀ n : ℕ, n < 32 →
    (sumAt m c n (ix2 d t) : EReal) = ((∑ b ∈ Finset.range (n + 1), blockSum x d t (31 - b) : ℝ) : EReal)
  | 0, _ => by
    rw [show sumAt m c 0 = k0_pay2 k0_pay1 (iblk m c 0 ⟨0, by decide⟩) from rfl, pay2_eq, pay1_eq]
    simp only [block_x_first h ⟨0, by decide⟩ (by omega : (0 : ℕ) < 32)]
    rw [← Reals.coe_sum, ← EReal.coe_add, zero_add, zero_add, Finset.sum_range_one, blockSum, dif_pos (by omega)]
  | n + 1, hn => by
    have hN : n + 1 < cfg0.N := by
      have : cfg0.N = 64 := by decide
      omega
    rw [show sumAt m c (n + 1) = k0_pay2 (sumAt m c n) (iblk m c 0 ⟨n + 1, hN⟩) from dif_pos hN, pay2_eq,
      sumAt_eq h d t n (by omega), Finset.sum_range_succ _ (n + 1)]
    simp only [block_x_first h ⟨n + 1, hN⟩ hn]
    rw [← Reals.coe_sum, ← EReal.coe_add, blockSum, dif_pos (by omega)]

/-- The blocks make up the batch. -/
theorem sum_blocks (x : Fin 2048 → Fin 128 → Fin 256 → ℝ) (d : Fin 128) (t : Fin 256) :
    ∑ b ∈ Finset.range 32, blockSum x d t (31 - b) = ∑ n, x n d t := by
  rw [Finset.sum_range_reflect (fun b => blockSum x d t b) 32, ← Fin.sum_univ_eq_sum_range,
    ← (finProdFinEquiv (m := 32) (n := 64)).sum_comp, Fintype.sum_prod_type]
  refine Finset.sum_congr rfl fun b _ => ?_
  rw [blockSum, dif_pos b.isLt]
  refine Finset.sum_congr rfl fun r _ => congrArg (fun n => x n d t) (Fin.ext ?_)
  simp [rowOf, finProdFinEquiv]
  omega

/-- The scaled sum is the mean. -/
theorem meanOf_eq (h : Args m c x al w1 w2) (d : Fin 128) (t : Fin 256) : (meanOf m c (ix2 d t) : EReal) = ((mu x d t : ℝ) : EReal) := by
  unfold meanOf k0_pay3
  pointwise
  rw [sumAt_eq h d t 31 (by omega), sum_blocks, Reals.lit_inv_batch, ← EReal.coe_mul]
  unfold mu
  congr 1
  ring

/-- The gate. -/
theorem gateOf_eq (h : Args m c x al w1 w2) (d : Fin 128) (t : Fin 256) : (gateOf m c (ix2 d t) : EReal) = ((gate al d t : ℝ) : EReal) := by
  rw [gate_coe, ← block_alpha h ⟨31, by decide⟩]
  unfold gateOf k0_pay4
  pointwise
  rfl

/-! ## The output -/

/-- What the output array ends at. -/
def outArray (x : Fin 2048 → Fin 128 → Fin 256 → ℝ) (al : Fin 128 → Fin 256 → EReal) (w1 w2 : Fin 128 → Fin 128 → EReal) :
    Vec Ideal S2048x128x256 .f32 := fun i => out x al w1 w2 (i 0) (i 1) (i 2)

/-- A point of the second phase reads the given inputs. -/
theorem reads_at (h : Args m c x al w1 w2) (t : Fin cfg0.N) (ht : 32 ≤ t.val) (hb : t.val - 32 < 32) :
    Reads (iblk m c 0 t) (meanOf m c) (gateOf m c) (iblk m c 2 t) (iblk m c 3 t) x al w1 w2 (rowOf (t.val - 32) hb) where
  x_eq := block_x_second h t ht hb
  mean_eq := meanOf_eq h
  gate_eq := gateOf_eq h
  shift_eq := block_shift h t
  scale_eq := block_scale h t

/-- The output array after the run. -/
theorem final (h : Args m c x al w1 w2) : (dats m 0 c).arrAt 4 (cfgs 0).N = outArray x al w1 w2 := by
  refine (dats m 0 c).arrAt_eq_of_covers 4 _ (by decide +kernel) fun t hf y => ?_
  have ht : 32 ≤ t.val := by
    by_contra hlt
    exact absurd hf (by rw [flush_out t (by omega)]; decide)
  have hb : t.val - 32 < 32 := by
    have hN := lt_of_lt_of_eq t.isLt (by decide : cfg0.grid.N = 64)
    omega
  have e := idx t
  blk_simp
  rw [after_4, outAt]
  obtain ⟨r, d, s, rfl⟩ : ∃ (r : Fin 64) (d : Fin 128) (s : Fin 256), y = ix3 r d s := ⟨y 0, y 1, y 2, by funext a; fin_cases a <;> rfl⟩
  rw [outBlock_eq (reads_at h t ht hb)]
  unfold outArray
  have e0 : rowOf (t.val - 32) hb r = ((win0_4.blk t).view.emb (ix3 r d s)) 0 := by
    apply Fin.ext
    blk_simp [e, rowOf]
    exact congrArg (· + r.val) (Nat.mul_comm 64 _)
  have e1 : d = ((win0_4.blk t).view.emb (ix3 r d s)) 1 := by
    apply Fin.ext
    blk_simp [e]
  have e2 : s = ((win0_4.blk t).view.emb (ix3 r d s)) 2 := by
    apply Fin.ext
    blk_simp [e]
  rw [e0]
  exact congrArg₂ (fun d' s' => out x al w1 w2 _ d' s') e1 e2

end Cert.KernelIdeal.Hand

end
-- ==== Proof.RefValue.lean ====
module

public import proofs.«01_k».proof.Proof.Gen.ReferenceIdeal.Run
public import proofs.«01_k».proof.Proof.Spec

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.StableHlo
open Cert.Spec

/-! The reference's result, read index by index. -/

variable (V0 : Valuation τ sig (Elt Ideal)) (x : Fin 2048 → Fin 128 → Fin 256 → ℝ) (al : Fin 128 → Fin 256 → EReal) (w1 w2 : Fin 128 → Fin 128 → EReal)

/-- The reference's arguments are the given ones. -/
structure Reads : Prop where
  x_eq : ∀ n d t, (V0 (Proc.devRef .tc main_arg0) : FVec Ideal S2048x128x256 .f32) (ix3 n d t) = ((x n d t : ℝ) : EReal)
  alpha_eq : ∀ d t, (V0 (Proc.devRef .tc main_arg1) : FVec Ideal S1x128x256 .f32) (ix3 0 d t) = al d t
  beta_eq : ∀ d t, (V0 (Proc.devRef .tc main_arg2) : FVec Ideal S1x128x256 .f32) (ix3 0 d t) = (0 : EReal)
  lambd_eq : ∀ d t, (V0 (Proc.devRef .tc main_arg3) : FVec Ideal S1x128x256 .f32) (ix3 0 d t) = (1 : EReal)
  shift_eq : ∀ d k, (V0 (Proc.devRef .tc main_arg4) : FVec Ideal S128x128 .f32) (ix2 d k) = w1 d k
  scale_eq : ∀ d k, (V0 (Proc.devRef .tc main_arg5) : FVec Ideal S128x128 .f32) (ix2 d k) = w2 d k

variable {V0 x al w1 w2}

/-- The batch mean. -/
theorem mean_eq (h : Reads V0 x al w1 w2) (a : Fin 1) (d : Fin 128) (t : Fin 256) :
    (res_main_v3 V0 : FVec Ideal S1x128x256 .f32) (ix3 a d t) = ((mu x d t : ℝ) : EReal) := by
  unfold res_main_v3
  pointwise
  simp only [h.x_eq, ← Reals.coe_sum, Reals.lit_batch]
  rw [Ideal.div_coe (by norm_num), ← EReal.coe_mul]
  unfold mu
  congr 1
  ring

/-- The gate. -/
theorem gate_eq (h : Reads V0 x al w1 w2) (d : Fin 128) (t : Fin 256) :
    (res_main_v21 V0 : FVec Ideal S1x128x256 .f32) (ix3 0 d t) = ((gate al d t : ℝ) : EReal) := by
  rw [gate_coe, ← h.alpha_eq]
  unfold res_main_v21
  pointwise

/-- The winsorized value. -/
theorem wins_eq (h : Reads V0 x al w1 w2) (n : Fin 2048) (d : Fin 128) (t : Fin 256) :
    (res_main_v28 V0 : FVec Ideal S2048x128x256 .f32) (ix3 n d t) = ((wins x al n d t : ℝ) : EReal) := by
  unfold res_main_v28
  pointwise
  rw [h.x_eq, h.beta_eq, mean_eq h, gate_eq h]
  exact Reals.wins_eq _ _ _

/-- The shifted value. -/
theorem diff_eq (h : Reads V0 x al w1 w2) (n : Fin 2048) (d : Fin 128) (t : Fin 256) :
    (res_main_v36 V0 : FVec Ideal S2048x128x256 .f32) (ix3 n d t) = (wins x al n d t : EReal) - shift x al w1 n d := by
  unfold res_main_v36
  pointwise
  rw [wins_eq h]
  refine congrArg (fun z : EReal => (wins x al n d t : EReal) - z) (Finset.sum_congr rfl fun k _ => ?_)
  simp only [wins_eq h, h.shift_eq, ← Reals.coe_sum, Reals.lit_time]
  rw [Ideal.div_coe (by norm_num), ← EReal.coe_mul, mul_comm]
  unfold avg
  congr 2
  ring

/-- The scale before it is kept off zero. -/
theorem scale_eq (h : Reads V0 x al w1 w2) (n : Fin 2048) (d : Fin 128) :
    (res_main_v45 V0 : FVec Ideal S2048x128 .f32) (ix2 n d) = scale x al w1 w2 n d := by
  suffices H : ∀ z : EReal, scale x al w1 w2 n d = z → (res_main_v45 V0 : FVec Ideal S2048x128 .f32) (ix2 n d) = z from H _ rfl
  intro z hz
  unfold res_main_v45
  pointwise
  rw [← hz]
  refine Finset.sum_congr (M := EReal) rfl fun k _ => ?_
  simp only [diff_eq h, h.scale_eq, Reals.lit_time]
  rw [mul_comm]
  rfl

/-- The scaled value. -/
theorem out_eq (h : Reads V0 x al w1 w2) (n : Fin 2048) (d : Fin 128) (t : Fin 256) :
    (res_main_v51 V0 : FVec Ideal S2048x128x256 .f32) (ix3 n d t) = out x al w1 w2 n d t := by
  unfold res_main_v51
  pointwise [id]
  rw [diff_eq h, scale_eq h]
  rfl

/-- The reference's result at an index. -/
theorem result_eq (h : Reads V0 x al w1 w2) (n : Fin 2048) (d : Fin 128) (t : Fin 256) :
    (val2 V0 (Proc.devRef .tc main_v92) : FVec Ideal S2048x128x256 .f32) (ix3 n d t) = out x al w1 w2 n d t := by
  rw [val2_main_v92]
  pointwise [id, res_main_v53, res_main_v56, res_main_v61, res_main_v62, res_main_v63]
  rw [h.lambd_eq, out_eq h]
  exact Reals.yeoJohnson_one _

end Cert.ReferenceIdeal.Hand

end
-- ==== Proof.Pre.lean ====
module

public import proofs.«01_k».proof.Pre_unlearned_transforms
public import Idealize.ShloMosaic.Lib.Pointwise
public import Idealize.ShloMosaic.Lib.IdealHost

@[expose] public section

noncomputable section

namespace Cert.Pre_unlearned_transforms

open Idealize.ShloMosaic

/-! What the precondition says of the arguments, element by element. -/

/-- The predicate's shape facts hold. -/
theorem preFacts : Facts where
  bcast_S_S2048x128x256 := by decide
  bcast_S_S1x128x256 := by decide

/-- A set flag says that the compared relation holds. -/
theorem of_flag {b : Bool} (h : BitVec.ofBool b = 1#1) : b = true := by
  cases b
  · exact absurd h (by decide)
  · rfl

variable (a0 : FVec Ideal S2048x128x256 .f32) (a1 a2 a3 : FVec Ideal S1x128x256 .f32) (a4 a5 : FVec Ideal S128x128 .f32)

/-- Where the first flag is set, `x` is a real number. -/
theorem finite_of (n : Fin 2048) (d : Fin 128) (t : Fin 256) (h : (@fn preFacts Ideal _ a0 a1 a2 a3 a4 a5).1 (ix3 n d t) = 1#1) :
    (a0 (ix3 n d t) : EReal) = ((a0 (ix3 n d t) : EReal).toReal : EReal) := by
  replace h : Ideal.cmp .olt (max (a0 (ix3 n d t) : EReal) (-(a0 (ix3 n d t)))) (Ideal.ofBits .f32 0x7F800000#32) = 1#1 := h
  have hlt : max (a0 (ix3 n d t) : EReal) (-(a0 (ix3 n d t))) < Ideal.ofBits .f32 0x7F800000#32 := of_decide_eq_true (of_flag h)
  have ht := hlt.trans_le le_top
  refine (EReal.coe_toReal (fun e => ?_) (fun e => ?_)).symm
  · rw [e] at ht
    exact absurd (lt_of_le_of_lt (le_max_left _ _) ht) (lt_irrefl _)
  · rw [e, EReal.neg_bot] at ht
    exact absurd (lt_of_le_of_lt (le_max_right _ _) ht) (lt_irrefl _)

/-- Where the second flag is set, `beta` is zero. -/
theorem zero_of (d : Fin 128) (t : Fin 256) (h : (@fn preFacts Ideal _ a0 a1 a2 a3 a4 a5).2.1 (ix3 0 d t) = 1#1) :
    (a2 (ix3 0 d t) : EReal) = 0 := by
  replace h : Ideal.cmp .oeq (a2 (ix3 0 d t) : EReal) (Ideal.ofBits .f32 0x00000000#32) = 1#1 := h
  have he : (a2 (ix3 0 d t) : EReal) = Ideal.ofBits .f32 0x00000000#32 := of_decide_eq_true (of_flag h)
  rw [he, Ideal.ofBits_zero]

/-- Where the third flag is set, `lambd` is one. -/
theorem one_of (d : Fin 128) (t : Fin 256) (h : (@fn preFacts Ideal _ a0 a1 a2 a3 a4 a5).2.2 (ix3 0 d t) = 1#1) :
    (a3 (ix3 0 d t) : EReal) = 1 := by
  replace h : Ideal.cmp .oeq (a3 (ix3 0 d t) : EReal) (Ideal.ofBits .f32 0x3F800000#32) = 1#1 := h
  have he : (a3 (ix3 0 d t) : EReal) = Ideal.ofBits .f32 0x3F800000#32 := of_decide_eq_true (of_flag h)
  rw [he, Ideal.ofBits_one_f32]

end Cert.Pre_unlearned_transforms

end
-- ==== Proof.Equal.lean ====
module

public import proofs.«01_k».proof.Defs
public import proofs.«01_k».proof.Proof.Gen.Kernel
public import proofs.«01_k».proof.Proof.KernelValue
public import proofs.«01_k».proof.Proof.RefValue
public import proofs.«01_k».proof.Proof.Pre
public import Idealize.ShloMosaic.Lib.Quiescent

@[expose] public section

set_option maxRecDepth 16384

noncomputable section

namespace Cert.Proof

open Idealize.ShloMosaic Idealize.ShloMosaic.StableHlo Idealize.SL.Sem

/-! The two programs end with the same result. -/

/-- The reference ends with its arguments as they were and every counter zero. -/
theorem reference_frame : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `x` as real numbers. -/
def xOf (m : (ℓ : Loc KernelIdeal.nD KernelIdeal.τ KernelIdeal.sig) → Buf (Elt Ideal) ℓ) (c : Dev KernelIdeal.nD) (n : Fin 2048) (d : Fin 128) (t : Fin 256) : ℝ :=
  (m ((c.tc : Thread KernelIdeal.nD KernelIdeal.τ).loc KernelIdeal.main_arg0) (ix3 n d t) : EReal).toReal
/-- `alpha`, by feature and time. -/
def alphaOf (m : (ℓ : Loc KernelIdeal.nD KernelIdeal.τ KernelIdeal.sig) → Buf (Elt Ideal) ℓ) (c : Dev KernelIdeal.nD) (d : Fin 128) (t : Fin 256) : EReal :=
  m ((c.tc : Thread KernelIdeal.nD KernelIdeal.τ).loc KernelIdeal.main_arg1) (ix3 0 d t)
/-- `W_shift`. -/
def shiftOf (m : (ℓ : Loc KernelIdeal.nD KernelIdeal.τ KernelIdeal.sig) → Buf (Elt Ideal) ℓ) (c : Dev KernelIdeal.nD) (d k : Fin 128) : EReal :=
  m ((c.tc : Thread KernelIdeal.nD KernelIdeal.τ).loc KernelIdeal.main_arg4) (ix2 d k)
/-- `W_scale`. -/
def scaleOf (m : (ℓ : Loc KernelIdeal.nD KernelIdeal.τ KernelIdeal.sig) → Buf (Elt Ideal) ℓ) (c : Dev KernelIdeal.nD) (d k : Fin 128) : EReal :=
  m ((c.tc : Thread KernelIdeal.nD KernelIdeal.τ).loc KernelIdeal.main_arg5) (ix2 d k)

variable {m : (ℓ : Loc KernelIdeal.nD KernelIdeal.τ KernelIdeal.sig) → Buf (Elt Ideal) ℓ}

/-- Under the precondition the kernel's arguments are these. -/
theorem kernel_args (h : @Pre_KernelIdeal_unlearned_transforms Pre_unlearned_transforms.preFacts m) (c : Dev KernelIdeal.nD) :
    KernelIdeal.Hand.Args m c (xOf m c) (alphaOf m c) (shiftOf m c) (scaleOf m c) where
  x_eq n d t := Pre_unlearned_transforms.finite_of _ _ _ _ _ _ n d t (congrFun (h c).1 (ix3 n d t))
  alpha_eq _ _ := rfl
  shift_eq _ _ := rfl
  scale_eq _ _ := rfl

/-- Under the precondition the reference's arguments, the same arrays, are these. -/
theorem reference_args {m' : (ℓ : Loc ReferenceIdeal.nD ReferenceIdeal.τ ReferenceIdeal.sig) → Buf (Elt Ideal) ℓ} (c : Dev KernelIdeal.nD)
    (h : @Pre_KernelIdeal_unlearned_transforms Pre_unlearned_transforms.preFacts m)
    (e0 : m' ((c.tc : Thread ReferenceIdeal.nD ReferenceIdeal.τ).loc ReferenceIdeal.main_arg0) = m ((c.tc : Thread KernelIdeal.nD KernelIdeal.τ).loc KernelIdeal.main_arg0))
    (e1 : m' ((c.tc : Thread ReferenceIdeal.nD ReferenceIdeal.τ).loc ReferenceIdeal.main_arg1) = m ((c.tc : Thread KernelIdeal.nD KernelIdeal.τ).loc KernelIdeal.main_arg1))
    (e2 : m' ((c.tc : Thread ReferenceIdeal.nD ReferenceIdeal.τ).loc ReferenceIdeal.main_arg2) = m ((c.tc : Thread KernelIdeal.nD KernelIdeal.τ).loc KernelIdeal.main_arg2))
    (e3 : m' ((c.tc : Thread ReferenceIdeal.nD ReferenceIdeal.τ).loc ReferenceIdeal.main_arg3) = m ((c.tc : Thread KernelIdeal.nD KernelIdeal.τ).loc KernelIdeal.main_arg3))
    (e4 : m' ((c.tc : Thread ReferenceIdeal.nD ReferenceIdeal.τ).loc ReferenceIdeal.main_arg4) = m ((c.tc : Thread KernelIdeal.nD KernelIdeal.τ).loc KernelIdeal.main_arg4))
    (e5 : m' ((c.tc : Thread ReferenceIdeal.nD ReferenceIdeal.τ).loc ReferenceIdeal.main_arg5) = m ((c.tc : Thread KernelIdeal.nD KernelIdeal.τ).loc KernelIdeal.main_arg5)) :
    ReferenceIdeal.Hand.Reads (launchContents m' c) (xOf m c) (alphaOf m c) (shiftOf m c) (scaleOf m c) where
  x_eq n d t := (congrFun e0 (ix3 n d t)).trans ((kernel_args h c).x_eq n d t)
  alpha_eq d t := congrFun e1 (ix3 0 d t)
  beta_eq d t := (congrFun e2 (ix3 0 d t)).trans (Pre_unlearned_transforms.zero_of _ _ _ _ _ _ d t (congrFun (h c).2.1 (ix3 0 d t)))
  lambd_eq d t := (congrFun e3 (ix3 0 d t)).trans (Pre_unlearned_transforms.one_of _ _ _ _ _ _ d t (congrFun (h c).2.2 (ix3 0 d t)))
  shift_eq d k := congrFun e4 (ix2 d k)
  scale_eq d k := congrFun e5 (ix2 d k)

/-- The reference's result as an array. -/
theorem reference_result {V0 : Valuation ReferenceIdeal.τ ReferenceIdeal.sig (Elt Ideal)} {x : Fin 2048 → Fin 128 → Fin 256 → ℝ} {al : Fin 128 → Fin 256 → EReal}
    {w1 w2 : Fin 128 → Fin 128 → EReal} (h : ReferenceIdeal.Hand.Reads V0 x al w1 w2) :
    ReferenceIdeal.Value.val2 V0 (Proc.devRef .tc ReferenceIdeal.main_v92) = KernelIdeal.Hand.outArray x al w1 w2 := by
  funext j
  obtain ⟨n, d, t, rfl⟩ : ∃ (n : Fin 2048) (d : Fin 128) (t : Fin 256), j = ix3 n d t := ⟨j 0, j 1, j 2, by funext a; fin_cases a <;> rfl⟩
  exact ReferenceIdeal.Hand.result_eq h n d t

/-- On arguments meeting the precondition the kernel and the reference end with the same result. -/
theorem equal : algebraic_KernelIdeal_ReferenceIdeal_pre_unlearned_transforms (hKernelIdeal := KernelIdeal.Gen.facts)
    (hReferenceIdeal := ReferenceIdeal.Gen.facts) (hPre_unlearned_transforms := Pre_unlearned_transforms.preFacts) := by
  intro m g m' g' h e
  refine ⟨fun c => KernelIdeal.Hand.outArray (xOf m c) (alphaOf m c) (shiftOf m c) (scaleOf m c), ?_, ?_⟩
  · refine (θ_run KernelIdeal.defs _ _).mono (fun r hr c => ⟨?_, hr.2.1 c⟩)
      (θ_run_and (KernelIdeal.Hand.run_main m g) (KernelIdeal.Hand.frame_all m g))
    exact ((hr.1 c).1 4).trans (KernelIdeal.Hand.final (kernel_args h c))
  · refine (θ_run ReferenceIdeal.defs _ _).mono (fun r hr c => ⟨?_, (hr c).2⟩) (ReferenceIdeal.Value.run (F := Ideal) m' g')
    obtain ⟨e0, e1, e2, e3, e4, e5⟩ := e c
    exact (hr c).1.trans ((ReferenceIdeal.Value.val2_main_v92 _).symm.trans (reference_result (reference_args c h e0 e1 e2 e3 e4 e5)))

end Cert.Proof

end
-- ==== Proof.lean ====
module

public import proofs.«01_k».proof.Defs
public import proofs.«01_k».proof.Proof.Gen.Kernel
public import proofs.«01_k».proof.Proof.KernelFrame
public import proofs.«01_k».proof.Proof.Equal

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Pre_unlearned_transforms.preFacts,
    fun m ρ _ => Cert.Kernel.Hand.frame m ρ,
    fun m ρ _ => Cert.KernelIdeal.Hand.frame_all m ρ,
    fun m ρ _ => Cert.KernelIdeal.Hand.frame_all m ρ,
    reference_frame,
    fun m ρ _ => reference_frame m ρ trivial,
    trivial,
    equal⟩

end Cert.Proof

end
